-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_pool_input_finite [hPre_pool_input_finite : Cert.Pre_pool_input_finite.Facts] (m : (ℓ : Loc Cert.MixIdeal.nD Cert.MixIdeal.τ Cert.MixIdeal.sig) → Buf (Elt Ideal) ℓ) : Prop :=
  ∀ c : Dev Cert.MixIdeal.nD,
    (Cert.Pre_pool_input_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).1 = (fun _ => 1#1)
    ∧ (Cert.Pre_pool_input_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_pool_input_finite [hPre_pool_input_finite : Cert.Pre_pool_input_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_pool_input_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_pool_input_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_pool_input_finite [hMixIdeal : Cert.MixIdeal.Facts] [hPre_pool_input_finite : Cert.Pre_pool_input_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_pool_input_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_pool_input_finite [hMixRefIdeal : Cert.MixRefIdeal.Facts] [hPre_pool_input_finite : Cert.Pre_pool_input_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_pool_input_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v42) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v7_0)) (v1 : (c : Dev Cert.KvIdeal.nD) → Buf (Elt Ideal) ((c.tc : Thread Cert.KvIdeal.nD Cert.KvIdeal.τ).loc Cert.KvIdeal.main_v7_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v7_0) = v0 c
          ∧ r.2.mem ((c.tc : Thread Cert.KvIdeal.nD Cert.KvIdeal.τ).loc Cert.KvIdeal.main_v7_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_v21) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Mix_MixIdeal : Prop :=
  True

def algebraic_MixIdeal_MixRefIdeal_pre_pool_input_finite [hMixIdeal : Cert.MixIdeal.Facts] [hMixRefIdeal : Cert.MixRefIdeal.Facts] [hPre_pool_input_finite : Cert.Pre_pool_input_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_pool_input_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v18)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v118) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hKv : Cert.Kv.Facts) (hKvIdeal : Cert.KvIdeal.Facts) (hKvRefIdeal : Cert.KvRefIdeal.Facts) (hMix : Cert.Mix.Facts) (hMixIdeal : Cert.MixIdeal.Facts) (hMixRefIdeal : Cert.MixRefIdeal.Facts) (hPre_scores_finite : Cert.Pre_scores_finite.Facts) (hPre_pool_input_finite : Cert.Pre_pool_input_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Kv (hKv := hKv)
    ∧ quiescent_KvIdeal (hKvIdeal := hKvIdeal)
    ∧ quiescent_KvRefIdeal (hKvRefIdeal := hKvRefIdeal)
    ∧ quiescent_Mix (hMix := hMix)
    ∧ quiescent_MixIdeal (hMixIdeal := hMixIdeal)
    ∧ quiescent_MixIdeal_pre_pool_input_finite (hMixIdeal := hMixIdeal) (hPre_pool_input_finite := hPre_pool_input_finite)
    ∧ quiescent_MixRefIdeal (hMixRefIdeal := hMixRefIdeal)
    ∧ quiescent_MixRefIdeal_pre_pool_input_finite (hMixRefIdeal := hMixRefIdeal) (hPre_pool_input_finite := hPre_pool_input_finite)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Kv_KvIdeal
    ∧ algebraic_KvIdeal_KvRefIdeal (hKvIdeal := hKvIdeal) (hKvRefIdeal := hKvRefIdeal)
    ∧ preserves_Mix_MixIdeal
    ∧ algebraic_MixIdeal_MixRefIdeal_pre_pool_input_finite (hMixIdeal := hMixIdeal) (hMixRefIdeal := hMixRefIdeal) (hPre_pool_input_finite := hPre_pool_input_finite)
-- ==== Pre_pool_input_finite.lean ====
abbrev S4x4096x2048 : Shape := ⟨3, ![4, 4096, 2048]⟩
abbrev S1x2048 : Shape := ⟨2, ![1, 2048]⟩
abbrev S1x2048x3072 : Shape := ⟨3, ![1, 2048, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S_ : Shape := ⟨0, ![]⟩

class Facts : Prop where
  bcast_S_S1x2048 : S_.BroadcastsInDim S1x2048 (![] : Fin 0 → Fin S1x2048.rank)
  bcast_S_S1x2048x3072 : S_.BroadcastsInDim S1x2048x3072 (![] : Fin 0 → Fin S1x2048x3072.rank)

variable [Facts]

def fn {F : FTy → Type} [FloatOps F] (main_arg0 : FVec F S4x4096x2048 .f32) (main_arg1 : FVec F S1x2048 .f32) (main_arg2 : FVec F S1x2048x3072 .f32) (main_arg3 : FVec F S1x4x256x256 .f32) (main_arg4 : FVec F S1x1024 .f32) (main_arg5 : FVec F S1x1024 .f32) (main_arg6 : FVec F S1x8x128x128 .f32) (main_arg7 : FVec F S1x8x128 .f32) (main_arg8 : FVec F S1x2048x2048 .f32) : IVec S1x2048 1 × IVec S1x2048x3072 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x3072 .f32 := Host.absf main_arg2
  let main_cst_0 : FVec F S_ .f32 := constant S_ .f32 0x7F800000#32
  let main_v4 : FVec F S1x2048x3072 .f32 := broadcastInDim S1x2048x3072 ![] bcast_S_S1x2048x3072 main_cst_0
  let main_v5 : IVec S1x2048x3072 1 := cmpf .olt main_v3 main_v4
  (main_v2, main_v5)
-- ==== Pre_scores_finite.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S_ : Shape := ⟨0, ![]⟩

class Facts : Prop where
  bcast_S_S1x2048 : S_.BroadcastsInDim S1x2048 (![] : Fin 0 → Fin S1x2048.rank)
  bcast_S_S1x2048x2048 : S_.BroadcastsInDim S1x2048x2048 (![] : Fin 0 → Fin S1x2048x2048.rank)
  bitsLt_bf16_f32 : FTy.bits .bf16 < FTy.bits .f32
  bcast_S_S1024x2048 : S_.BroadcastsInDim S1024x2048 (![] : Fin 0 → Fin S1024x2048.rank)

variable [Facts]

def fn {F : FTy → Type} [FloatOps F] (main_arg0 : FVec F S16384x2048 .f32) (main_arg1 : FVec F S1x2048 .f32) (main_arg2 : FVec F S1x2048x2048 .f32) (main_arg3 : FVec F S1024x2048 .bf16) (main_arg4 : FVec F S1024x2048 .bf16) (main_arg5 : FVec F S1x2048x2048 .f32) : IVec S1x2048 1 × IVec S1x2048x2048 1 × IVec S1024x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x2048 .f32 := Host.absf main_arg2
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1024x2048 .f32 := (extf .f32 · bitsLt_bf16_f32) main_arg3
  let main_v7 : FVec F S1024x2048 .f32 := Host.absf main_v6
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  (main_v2, main_v5, main_v9)
-- ==== Attn.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1024x2048, .bf16⟩
  | .hbm, ⟨4, _⟩ => ⟨S1024x2048, .bf16⟩
  | .hbm, ⟨5, _⟩ => ⟨S1x2048x2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnRefIdeal.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x2048 : Shape := ⟨2, ![2048, 2048]⟩
abbrev S4x4096x4x512 : Shape := ⟨4, ![4, 4096, 4, 512]⟩
abbrev S4x256x4x512 : Shape := ⟨4, ![4, 256, 4, 512]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1024x2048, .bf16⟩
  | .hbm, ⟨4, _⟩ => ⟨S1024x2048, .bf16⟩
  | .hbm, ⟨5, _⟩ => ⟨S1x2048x2048, .f32⟩
  | .hbm, ⟨6, _⟩ => ⟨S4x4096x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S2048x2048, .f32⟩
  | .hbm, ⟨25, _⟩ => ⟨S4x4096x2048, .f32⟩
  | .hbm, ⟨26, _⟩ => ⟨S4x4096x4x512, .f32⟩
  | .hbm, ⟨27, _⟩ => ⟨S1024x2048, .f32⟩
  | .hbm, ⟨28, _⟩ => ⟨S4x256x4x512, .f32⟩
  | .hbm, ⟨29, _⟩ => ⟨S1024x2048, .f32⟩
  | .hbm, ⟨30, _⟩ => ⟨S4x256x4x512, .f32⟩
  | .hbm, ⟨31, _⟩ => ⟨S4x4x4096x256, .f32⟩
  | .hbm, ⟨32, _⟩ => ⟨S_, .f32⟩
  | .hbm, ⟨33, _⟩ => ⟨S4x4x4096x256, .f32⟩
  | .hbm, ⟨34, _⟩ => ⟨S4x4x4096x256, .f32⟩
  | .hbm, ⟨35, _⟩ => ⟨S_, .f32⟩
  | .hbm, ⟨36, _⟩ => ⟨S4x4x4096, .f32⟩
  | .hbm, ⟨37, _⟩ => ⟨S_, .f32⟩
  | .hbm, ⟨38, _⟩ => ⟨S4x4x4096, .f32⟩
  | .hbm, ⟨39, _⟩ => ⟨S4x4x4096, .f32⟩
  | .hbm, ⟨40, _⟩ => ⟨S4x4x4096x1, .f32⟩
  | .hbm, ⟨41, _⟩ => ⟨S4x4x4096x256, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S4x4x4096x1, .f32⟩
  | .hbm, ⟨47, _⟩ => ⟨S4x4x4096x256, .f32⟩
  | .hbm, ⟨48, _⟩ => ⟨S4x4x4096x256, .f32⟩
  | .hbm, ⟨49, _⟩ => ⟨S4x4x512x4096, .f32⟩
  | .hbm, ⟨50, _⟩ => ⟨S4x4096x4x512, .f32⟩
  | .hbm, ⟨51, _⟩ => ⟨S4x4096x2048, .f32⟩
  | .hbm, ⟨52, _⟩ => ⟨S2048x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kv.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1x2048x2048, .f32⟩
  | .hbm, ⟨4, _⟩ => ⟨S1024x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S1024x2048, .bf16⟩
  | .hbm, ⟨12, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvRefIdeal.lean ====
abbrev S4x256x2048 : Shape := ⟨3, ![4, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x2048 : Shape := ⟨2, ![2048, 2048]⟩
abbrev S1024x2048 : Shape := ⟨2, ![1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1x2048x2048, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S2048x2048, .f32⟩
  | .hbm, ⟨22, _⟩ => ⟨S4x256x2048, .f32⟩
  | .hbm, ⟨23, _⟩ => ⟨S4x256x2048, .bf16⟩
  | .hbm, ⟨24, _⟩ => ⟨S1024x2048, .bf16⟩
  | .hbm, ⟨25, _⟩ => ⟨S2048x2048, .f32⟩
  | .hbm, ⟨26, _⟩ => ⟨S4x256x2048, .f32⟩
  | .hbm, ⟨27, _⟩ => ⟨S4x256x2048, .bf16⟩
  | .hbm, ⟨28, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Mix.lean ====
abbrev S4x4096x2048 : Shape := ⟨3, ![4, 4096, 2048]⟩
abbrev S1x2048 : Shape := ⟨2, ![1, 2048]⟩
abbrev S1x2048x3072 : Shape := ⟨3, ![1, 2048, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S16384x2048 : Shape := ⟨2, ![16384, 2048]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S2048 : Shape := ⟨1, ![2048]⟩
abbrev S2048x3072 : Shape := ⟨2, ![2048, 3072]⟩
abbrev S4x256x256 : Shape := ⟨3, ![4, 256, 256]⟩
abbrev S1024 : Shape := ⟨1, ![1024]⟩
abbrev S8x128x128 : Shape := ⟨3, ![8, 128, 128]⟩
abbrev S2048x2048 : Shape := ⟨2, ![2048, 2048]⟩
abbrev S256x2048 : Shape := ⟨2, ![256, 2048]⟩
abbrev S16x1024 : Shape := ⟨2, ![16, 1024]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S272x1024 : Shape := ⟨2, ![272, 1024]⟩
abbrev S272x256 : Shape := ⟨2, ![272, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 28
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x3072, .f32⟩
  | .hbm, ⟨3, _⟩ => ⟨S1x4x256x256, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x2048x2048, .f32⟩
  | .hbm, ⟨9, _⟩ => ⟨S16384x2048, .f32⟩
  | .hbm, ⟨10, _⟩ => ⟨S8x128, .f32⟩
  | .hbm, ⟨11, _⟩ => ⟨S128x8, .f32⟩
  | .hbm, ⟨12, _⟩ => ⟨S128x8x128, .f32⟩
  | .hbm, ⟨13, _⟩ => ⟨S128x1024, .f32⟩
  | .hbm, ⟨14, _⟩ => ⟨S2048, .f32⟩
  | .hbm, ⟨15, _⟩ => ⟨S1x2048, .f32⟩
  | .hbm, ⟨16, _⟩ => ⟨S2048x3072, .f32⟩
  | .hbm, ⟨17, _⟩ => ⟨S2048x3072, .bf16⟩
  | .hbm, ⟨18, _⟩ => ⟨S4x256x256, .f32⟩
  | .hbm, ⟨19, _⟩ => ⟨S4x256x256, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8x128x128, .f32⟩
  | .hbm, ⟨25, _⟩ => ⟨S2048x2048, .f32⟩
  | .hbm, ⟨26, _⟩ => ⟨S2048x2048, .bf16⟩
  | .hbm, ⟨27, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S128x1024, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S16x1024, .f32⟩
  | .local _ .vmem, ⟨13, _⟩ => ⟨S8x128x128, .bf16⟩
  | .local _ .vmem, ⟨14, _⟩ => ⟨S256x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4x4096x2048 : Shape := ⟨3, ![4, 4096, 2048]⟩
abbrev S1x2048 : Shape := ⟨2, ![1, 2048]⟩
abbrev S1x2048x3072 : Shape := ⟨3, ![1, 2048, 3072]⟩
abbrev S1x4x256x256 : Shape := ⟨4, ![1, 4, 256, 256]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x3072 : Shape := ⟨2, ![2048, 3072]⟩
abbrev S4x4096x3072 : Shape := ⟨3, ![4, 4096, 3072]⟩
abbrev S4x4096x1024 : Shape := ⟨3, ![4, 4096, 1024]⟩
abbrev S4x256x256 : Shape := ⟨3, ![4, 256, 256]⟩
abbrev S1024 : Shape := ⟨1, ![1024]⟩
abbrev S4096 : Shape := ⟨1, ![4096]⟩
abbrev S1x4096x1 : Shape := ⟨3, ![1, 4096, 1]⟩
abbrev S4x4096x256 : Shape := ⟨3, ![4, 4096, 256]⟩
abbrev S4x4098x256 : Shape := ⟨3, ![4, 4098, 256]⟩
abbrev S4x4100x256 : Shape := ⟨3, ![4, 4100, 256]⟩
abbrev S4x4104x256 : Shape := ⟨3, ![4, 4104, 256]⟩
abbrev S4x4112x256 : Shape := ⟨3, ![4, 4112, 256]⟩
abbrev S4x4096x1x256 : Shape := ⟨4, ![4, 4096, 1, 256]⟩
abbrev S4x4096x4x256 : Shape := ⟨4, ![4, 4096, 4, 256]⟩
abbrev S4x256x4x4096 : Shape := ⟨4, ![4, 256, 4, 4096]⟩
abbrev S1x1x1024 : Shape := ⟨3, ![1, 1, 1024]⟩
abbrev S8x128x128 : Shape := ⟨3, ![8, 128, 128]⟩
abbrev S8x128 : Shape := ⟨2, ![8, 128]⟩
abbrev S4x32x128x8x128 : Shape := ⟨5, ![4, 32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S2048x2048 : Shape := ⟨2, ![2048, 2048]⟩
abbrev S16384x2048 : Shape := ⟨2, ![16384, 2048]⟩

abbrev nBuf : Space → Nat
  | .hbm => 150
  | .vmem => 0
  | .smem => 0
  | _ => 0

abbrev hbmTy0_0 (i : Nat) : BufTy := match i % 128 with
  | 0 => ⟨S4x4096x2048, .f32⟩
  | 1 => ⟨S1x2048, .f32⟩
  | 2 => ⟨S1x2048x3072, .f32⟩
  | 3 => ⟨S1x4x256x256, .f32⟩
  | 4 => ⟨S1x1024, .f32⟩
  | 5 => ⟨S1x1024, .f32⟩
  | 6 => ⟨S1x8x128x128, .f32⟩
  | 7 => ⟨S1x8x128, .f32⟩
  | 8 => ⟨S1x2048x2048, .f32⟩
  | 9 => ⟨S2048, .f32⟩
  | 10 => ⟨S4x4096x2048, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x2048, .f32⟩
  | 22 => ⟨S4x4096x2048, .f32⟩
  | 23 => ⟨S1x1x2048, .f32⟩
  | 24 => ⟨S4x4096x2048, .f32⟩
  | 25 => ⟨S4x4096x2048, .f32⟩
  | 26 => ⟨S2048x3072, .f32⟩
  | 27 => ⟨S4x4096x3072, .f32⟩
  | 28 => ⟨S4x4096x1024, .f32⟩
  | 29 => ⟨S4x256x256, .f32⟩
  | 30 => ⟨S1024, .f32⟩
  | 31 => ⟨S_, .f32⟩
  | 32 => ⟨S_, .f32⟩
  | 33 => ⟨S4x4096x1024, .f32⟩
  | 34 => ⟨S4096, .i32⟩
  | 35 => ⟨S_, .i32⟩
  | 36 => ⟨S4096, .i32⟩
  | 37 => ⟨S4096, .i32⟩
  | 38 => ⟨S4096, .f32⟩
  | 39 => ⟨S1x4096x1, .f32⟩
  | 40 => ⟨S4x4096x256, .f32⟩
  | 41 => ⟨S_, .f32⟩
  | 42 => ⟨S4x4098x256, .f32⟩
  | 43 => ⟨S4x4096x256, .f32⟩
  | 44 => ⟨S4x4096x256, .f32⟩
  | 45 => ⟨S_, .f32⟩
  | 46 => ⟨S1x4096x1, .f32⟩
  | 47 => ⟨S1x4096x1, .f32⟩
  | 48 => ⟨S4x4096x256, .f32⟩
  | 49 => ⟨S4x4096x256, .f32⟩
  | 50 => ⟨S4x4096x256, .f32⟩
  | 51 => ⟨S4x4096x256, .f32⟩
  | 52 => ⟨S4x4096x256, .f32⟩
  | 53 => ⟨S_, .f32⟩
  | 54 => ⟨S4x4100x256, .f32⟩
  | 55 => ⟨S4x4096x256, .f32⟩
  | 56 => ⟨S4x4096x256, .f32⟩
  | 57 => ⟨S_, .f32⟩
  | 58 => ⟨S1x4096x1, .f32⟩
  | 59 => ⟨S1x4096x1, .f32⟩
  | 60 => ⟨S4x4096x256, .f32⟩
  | 61 => ⟨S4x4096x256, .f32⟩
  | 62 => ⟨S4x4096x256, .f32⟩
  | 63 => ⟨S4x4096x256, .f32⟩
  | 64 => ⟨S4x4096x256, .f32⟩
  | 65 => ⟨S_, .f32⟩
  | 66 => ⟨S4x4104x256, .f32⟩
  | 67 => ⟨S4x4096x256, .f32⟩
  | 68 => ⟨S4x4096x256, .f32⟩
  | 69 => ⟨S_, .f32⟩
  | 70 => ⟨S1x4096x1, .f32⟩
  | 71 => ⟨S1x4096x1, .f32⟩
  | 72 => ⟨S4x4096x256, .f32⟩
  | 73 => ⟨S4x4096x256, .f32⟩
  | 74 => ⟨S4x4096x256, .f32⟩
  | 75 => ⟨S4x4096x256, .f32⟩
  | 76 => ⟨S4x4096x256, .f32⟩
  | 77 => ⟨S_, .f32⟩
  | 78 => ⟨S4x4112x256, .f32⟩
  | 79 => ⟨S4x4096x256, .f32⟩
  | 80 => ⟨S4x4096x256, .f32⟩
  | 81 => ⟨S_, .f32⟩
  | 82 => ⟨S1x4096x1, .f32⟩
  | 83 => ⟨S1x4096x1, .f32⟩
  | 84 => ⟨S4x4096x256, .f32⟩
  | 85 => ⟨S4x4096x256, .f32⟩
  | 86 => ⟨S4x4096x256, .f32⟩
  | 87 => ⟨S4x4096x256, .f32⟩
  | 88 => ⟨S4x4096x1x256, .f32⟩
  | 89 => ⟨S4x4096x1x256, .f32⟩
  | 90 => ⟨S4x4096x1x256, .f32⟩
  | 91 => ⟨S4x4096x1x256, .f32⟩
  | 92 => ⟨S4x4096x4x256, .f32⟩
  | 93 => ⟨S4x256x4x4096, .f32⟩
  | 94 => ⟨S4x4096x4x256, .f32⟩
  | 95 => ⟨S4x4096x1024, .f32⟩
  | 96 => ⟨S1x1x1024, .f32⟩
  | 97 => ⟨S4x4096x1024, .f32⟩
  | 98 => ⟨S4x4096x1024, .f32⟩
  | 99 => ⟨S4x4096x2048, .f32⟩
  | 100 => ⟨S1024, .f32⟩
  | 101 => ⟨S8x128x128, .f32⟩
  | 102 => ⟨S8x128, .f32⟩
  | 103 => ⟨S4x4096x1024, .f32⟩
  | 104 => ⟨S4x4096x1024, .f32⟩
  | 105 => ⟨S4x4096x1024, .f32⟩
  | 106 => ⟨S_, .f32⟩
  | 107 => ⟨S4x4096, .f32⟩
  | 108 => ⟨S4x4096x1, .f32⟩
  | 109 => ⟨S_, .f32⟩
  | 110 => ⟨S4x4096x1, .f32⟩
  | 111 => ⟨S4x4096x1, .f32⟩
  | 112 => ⟨S_, .f32⟩
  | 113 => ⟨S4x4096x1, .f32⟩
  | 114 => ⟨S4x4096x1, .f32⟩
  | 115 => ⟨S4x4096x1, .f32⟩
  | 116 => ⟨S4x4096x1024, .f32⟩
  | 117 => ⟨S4x4096x1024, .f32⟩
  | 118 => ⟨S1x1x1024, .f32⟩
  | 119 => ⟨S4x4096x1024, .f32⟩
  | 120 => ⟨S4x4096x1024, .f32⟩
  | 121 => ⟨S4x32x128x8x128, .f32⟩
  | 122 => ⟨S128, .i32⟩
  | 123 => ⟨S_, .i32⟩
  | 124 => ⟨S128, .i32⟩
  | 125 => ⟨S128, .i32⟩
  | 126 => ⟨S1x128, .i32⟩
  | 127 => ⟨S128x1, .i32⟩
  | _ => ⟨S4x4096x2048, .f32⟩

abbrev hbmTy0_1 (i : Nat) : BufTy := match i % 128 with
  | 0 => ⟨S128x128, .i32⟩
  | 1 => ⟨S128x128, .i32⟩
  | 2 => ⟨S128x128, .i1⟩
  | 3 => ⟨S1x128x128, .i1⟩
  | 4 => ⟨S_, .f32⟩
  | 5 => ⟨S_, .f32⟩
  | 6 => ⟨S8x128x128, .i1⟩
  | 7 => ⟨S8x128x128, .f32⟩
  | 8 => ⟨S8x128x128, .f32⟩
  | 9 => ⟨S8x4x32x128x128, .f32⟩
  | 10 => ⟨S4x32x128x8x128, .f32⟩
  | 11 => ⟨S128x8, .f32⟩
  | 12 => ⟨S1x1x128x8x1, .f32⟩
  | 13 => ⟨S4x32x128x8x128, .f32⟩
  | 14 => ⟨S4x32x128x8x128, .f32⟩
  | 15 => ⟨S4x4096x1024, .f32⟩
  | 16 => ⟨S4x4096x1024, .f32⟩
  | 17 => ⟨S4x4096x2048, .f32⟩
  | 18 => ⟨S2048x2048, .f32⟩
  | 19 => ⟨S4x4096x2048, .f32⟩
  | 20 => ⟨S4x4096x2048, .f32⟩
  | 21 => ⟨S16384x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_call0_cst : Ref sig .tc := ⟨.hbm, 31, rfl⟩
abbrev main_call0_call0_v0 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_10 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_c_13 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_14 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩

abbrev nD : Nat := 1
abbrev τ : Topo := Topo.v7x

variable {F : FTy → Type} [FloatOps F]
-- ==== Proof.Rows.lean ====
module

public import Idealize.ShloMosaic.Lib.Pointwise

@[expose] public section

noncomputable section

namespace Cert.Rows

open Idealize.ShloMosaic

/-- The number of elements of a row of the layer's width, as the programs write it. -/
abbrev width : EReal := Ideal.ofBits .f32 0x45000000#32
/-- The small number under the root of a norm, as the programs write it. -/
abbrev eps : EReal := Ideal.ofBits .f32 0x358637BD#32

/-- A row divided by the root of its mean square (`c` is its length as a number) and scaled by the gains `g`. -/
def rms {n : ℕ} (c : EReal) (x g : Fin n → EReal) (k : Fin n) : EReal :=
  x k * Ideal.rsqrt (Ideal.div (∑ j, x j * x j) c + eps) * g k

/-- A row times a matrix. -/
def vecMat {n p : ℕ} (x : Fin n → EReal) (w : Fin n → Fin p → EReal) (f : Fin p) : EReal := ∑ k, x k * w k f

/-- `a · σ(a) · b`, the gated product. -/
def swiglu (a b : EReal) : EReal := a * Ideal.logistic a * b

end Cert.Rows

end
-- ==== Proof.AttnRows.lean ====
module

public import proofs.«01_k».proof.Proof.Rows

@[expose] public section

noncomputable section

/-! One head of the attention, row by row. -/

namespace Cert.Rows

open Idealize.ShloMosaic

/-- The factor the scores carry, as the programs write it. -/
abbrev scale : EReal := Ideal.ofBits .f32 0x3D3504F3#32
/-- The value a maximum starts from, as the programs write it. -/
abbrev least : EReal := Ideal.ofBits .f32 0xFF800000#32

/-- A query's scores against the rows of `K`. -/
def score {n p : ℕ} (q : Fin n → EReal) (K : Fin p → Fin n → EReal) (j : Fin p) : EReal := (∑ d, q d * K j d) * scale

/-- The greatest of a row of scores. -/
def top {p : ℕ} (s : Fin p → EReal) : EReal := Finset.fold max least s Finset.univ

/-- The exponential of a score less the greatest. -/
def weight {p : ℕ} (s : Fin p → EReal) (j : Fin p) : EReal := Ideal.exp (s j - top s)

/-- The weighted rows of `V` as the kernel sums them: each weight times the reciprocal of their sum. -/
def headMul {p n : ℕ} (s : Fin p → EReal) (V : Fin p → Fin n → EReal) (l : Fin n) : EReal :=
  ∑ j, weight s j * Ideal.div 1 (∑ j, weight s j) * V j l

/-- The weighted rows of `V` as the reference sums them: each weight over their sum. -/
def headDiv {p n : ℕ} (s : Fin p → EReal) (V : Fin p → Fin n → EReal) (l : Fin n) : EReal :=
  ∑ j, V j l * Ideal.div (weight s j) (∑ j, weight s j)

end Cert.Rows

end
-- ==== Proof.Finite.lean ====
module

public import proofs.«01_k».proof.Proof.AttnRows
public import Idealize.ShloMosaic.Lib.IdealHost

@[expose] public section

noncomputable section

/-! Extended reals that are reals, and the operations that keep them so. -/

namespace Cert.Rows

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem isReal_zero : IsReal 0 := ⟨0, rfl⟩

theorem isReal_sum {ι : Type*} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

theorem isReal_iff {a : EReal} : IsReal a ↔ a ≠ ⊤ ∧ a ≠ ⊥ := by
  constructor
  · rintro ⟨x, rfl⟩; exact ⟨EReal.coe_ne_top x, EReal.coe_ne_bot x⟩
  · rintro ⟨h1, h2⟩; exact ⟨a.toReal, (EReal.coe_toReal h1 h2).symm⟩

/-- The literal `2048`. -/
theorem width_eq : width = ((2048 : ℝ) : EReal) := by
  simp [Ideal.ofBits, Ideal.ieee, -EReal.coe_mul]; norm_num

/-- The small number under a root is a positive real. -/
theorem eps_pos : ∃ e : ℝ, 0 < e ∧ eps = (e : EReal) := by
  refine ⟨((8796093 : ℝ) * 2 ^ (-43 : ℤ)), by positivity, ?_⟩
  simp [Ideal.ofBits, Ideal.ieee, -EReal.coe_mul]

theorem scale_real : IsReal scale := by
  refine ⟨((11863283 : ℝ) * 2 ^ (-28 : ℤ)), ?_⟩
  simp [Ideal.ofBits, Ideal.ieee, -EReal.coe_mul]

theorem least_eq : least = ⊥ := by
  simp [Ideal.ofBits, Ideal.ieee]

theorem inf_eq : Ideal.ofBits .f32 0x7F800000#32 = ⊤ := by
  simp [Ideal.ofBits, Ideal.ieee]

theorem mul_self_nonneg' (a : EReal) : 0 ≤ a * a := by
  induction a with
  | bot => simp
  | top => simp
  | coe r => rw [← EReal.coe_mul]; exact EReal.coe_nonneg.mpr (mul_self_nonneg r)

theorem rsqrt_pos {r : ℝ} (h : 0 < r) : Ideal.rsqrt (r : EReal) = ((Real.sqrt r)⁻¹ : ℝ) := by
  show (if r < 0 then ⊥ else if r = 0 then ⊤ else (((Real.sqrt r)⁻¹ : ℝ) : EReal)) = _
  rw [if_neg (not_lt.mpr h.le), if_neg h.ne']

/-- The norm of any row is real where the gain is: an infinite element makes the mean square infinite, and the
    reciprocal of its root zero. -/
theorem isReal_rms {n : ℕ} (x g : Fin n → EReal) (k : Fin n) (hg : IsReal (g k)) : IsReal (rms width x g k) := by
  obtain ⟨e, he, heq⟩ := eps_pos
  unfold rms
  refine IsReal.mul ?_ hg
  rw [width_eq, heq, Ideal.div_coe (by norm_num : (2048 : ℝ) ≠ 0)]
  have hnn : ∀ j ∈ (Finset.univ : Finset (Fin n)), 0 ≤ x j * x j := fun j _ => mul_self_nonneg' (x j)
  by_cases hx : ∀ j, IsReal (x j)
  · obtain ⟨s, hs⟩ := isReal_sum Finset.univ (fun j => x j * x j) fun j _ => (hx j).mul (hx j)
    have h0 : 0 ≤ s := by
      have := Finset.sum_nonneg hnn
      rw [hs] at this
      exact EReal.coe_nonneg.mp this
    rw [hs, ← EReal.coe_mul, ← EReal.coe_add, rsqrt_pos (by positivity)]
    exact (hx k).mul ⟨_, rfl⟩
  · obtain ⟨j, hj⟩ := not_forall.mp hx
    have htop : x j * x j = ⊤ := by
      by_cases h1 : x j = ⊤
      · rw [h1]; rfl
      · by_cases h2 : x j = ⊥
        · rw [h2]; rfl
        · exact absurd (isReal_iff.mpr ⟨h1, h2⟩) hj
    have hS : ∑ j, x j * x j = ⊤ := top_le_iff.mp (htop ▸ Finset.single_le_sum hnn (Finset.mem_univ j))
    rw [hS, EReal.top_mul_coe_of_pos (by norm_num), EReal.top_add_coe]
    show IsReal (x k * 0)
    rw [mul_zero]
    exact isReal_zero

theorem isReal_vecMat {n p : ℕ} (x : Fin n → EReal) (w : Fin n → Fin p → EReal) (f : Fin p) (hx : ∀ k, IsReal (x k))
    (hw : ∀ k, IsReal (w k f)) : IsReal (vecMat x w f) :=
  isReal_sum _ _ fun k _ => (hx k).mul (hw k)

theorem isReal_score {n p : ℕ} (q : Fin n → EReal) (K : Fin p → Fin n → EReal) (j : Fin p) (hq : ∀ d, IsReal (q d))
    (hK : ∀ d, IsReal (K j d)) : IsReal (score q K j) :=
  (isReal_sum _ _ fun d _ => (hq d).mul (hK d)).mul scale_real

theorem exp_nonneg (a : EReal) : 0 ≤ Ideal.exp a := by
  induction a with
  | bot => exact le_refl _
  | top => exact le_top
  | coe r => exact EReal.coe_nonneg.mpr (Real.exp_pos r).le

/-- Beside real scores the sum of the weights is not zero. -/
theorem sum_weight_ne {p : ℕ} (s : Fin p → EReal) (j : Fin p) (hs : ∀ j, IsReal (s j)) : ∑ j, weight s j ≠ 0 := by
  have htop : top s < ⊤ := by
    refine (Finset.fold_max_lt _).mpr ⟨?_, fun i _ => lt_top_iff_ne_top.mpr (isReal_iff.mp (hs i)).1⟩
    rw [least_eq]; exact bot_lt_top
  have hle : s j ≤ top s := (Finset.le_fold_max _).mpr (Or.inr ⟨j, Finset.mem_univ j, le_refl _⟩)
  have hreal : IsReal (top s) := isReal_iff.mpr ⟨htop.ne, fun h => (isReal_iff.mp (hs j)).2 (le_bot_iff.mp (h ▸ hle))⟩
  obtain ⟨d, hd⟩ := (hs j).sub hreal
  have hpos : 0 < weight s j := by
    unfold weight; rw [hd]
    exact EReal.coe_pos.mpr (Real.exp_pos d)
  exact (lt_of_lt_of_le hpos (Finset.single_le_sum (f := fun j => weight s j) (fun i _ => exp_nonneg _) (Finset.mem_univ j))).ne'

/-- So the kernel's head and the reference's are one. -/
theorem headMul_eq {p n : ℕ} (s : Fin p → EReal) (V : Fin p → Fin n → EReal) (l : Fin n) (hs : ∀ j, IsReal (s j)) :
    headMul s V l = headDiv s V l := by
  unfold headMul headDiv
  refine Finset.sum_congr rfl fun j _ => ?_
  have hne := sum_weight_ne s j hs
  unfold Ideal.div
  rw [if_neg hne, if_neg hne, one_mul, mul_comm]

theorem max_least (a : EReal) : max least a = a := by
  rw [least_eq]; exact max_eq_right bot_le

/-- What the preconditions say of an element. -/
theorem isReal_of_lt {a : EReal} (h : Ideal.cmp .olt (max a (-a)) (Ideal.ofBits .f32 0x7F800000#32) = 1#1) : IsReal a := by
  rw [inf_eq] at h
  have hlt : max a (-a) < ⊤ := by
    by_contra hn
    simp [Ideal.cmp, hn] at h
  refine isReal_iff.mpr ⟨fun e => ?_, fun e => ?_⟩
  · rw [e] at hlt; simp at hlt
  · rw [e] at hlt; simp at hlt

end Cert.Rows

end
-- ==== Proof.AttnPay.lean ====
module

public import proofs.«01_k».proof.Proof.AttnRows
public import proofs.«01_k».proof.Proof.Gen.AttnIdeal.Skeleton

@[expose] public section

set_option maxRecDepth 16384

noncomputable section

namespace Cert.AttnPay

open Cert.AttnIdeal Cert.AttnIdeal.Gen Cert.Rows Idealize.ShloMosaic

/-- The block's queries: its normed rows times the query weights. -/
theorem pay2_apply (x : Vec Ideal S256x2048 .f32) (g : Vec Ideal S1x2048 .f32) (w : Vec Ideal S2048x2048 .bf16) (r : Fin 256) (l : Fin 2048) :
    k0_pay2 (F := Ideal) x g w (ix2 r l)
      = vecMat (rms width (fun j => x (ix2 r j)) (fun j => g (ix2 0 j))) (fun (k : Fin 2048) f => w (ix2 k f)) l := by
  pointwise [k0_pay2]
  rfl

theorem pay1_apply (x : Vec Ideal S256x2048 .f32) (o : Vec Ideal S256x2048 .bf16) (w : Vec Ideal S2048x2048 .bf16) (r : Fin 256) (l : Fin 2048) :
    k0_pay1 (F := Ideal) x o w (ix2 r l) = x (ix2 r l) + vecMat (fun k => o (ix2 r k)) (fun (k : Fin 2048) f => w (ix2 k f)) l := by
  pointwise [k0_pay1]
  rfl

/-- The columns of head `0` of a row of queries, and so on. -/
theorem pay3_apply (x : Vec Ideal S256x2048 .f32) (g : Vec Ideal S1x2048 .f32) (w : Vec Ideal S2048x2048 .bf16)
    (k v : Vec Ideal S256x512 .bf16) (r : Fin 256) (l : Fin 512) :
    k0_pay4 (F := Ideal) (k0_pay3 x g w k v) (ix2 r l)
      = headMul (score (fun d : Fin 512 => k0_pay2 (F := Ideal) x g w (ix2 r ⟨d.val, by omega⟩)) (fun (j : Fin 256) d => k (ix2 j d)))
          (fun (j : Fin 256) l => v (ix2 j l)) l := by
  unfold k0_pay3
  generalize k0_pay2 (F := Ideal) x g w = q
  pointwise [k0_pay4]
  rfl

theorem pay5_apply (q : FVec Ideal S256x2048 .bf16) (k v : Vec Ideal S256x512 .bf16) (r : Fin 256) (l : Fin 512) :
    k0_pay5 (F := Ideal) q k v (ix2 r l)
      = headMul (score (fun d : Fin 512 => q (ix2 r ⟨512 + d.val, by omega⟩)) (fun (j : Fin 256) d => k (ix2 j d)))
          (fun (j : Fin 256) l => v (ix2 j l)) l := by
  pointwise [k0_pay5]
  rfl

theorem pay8_apply (q : FVec Ideal S256x2048 .bf16) (k v : Vec Ideal S256x512 .bf16) (r : Fin 256) (l : Fin 512) :
    k0_pay8 (F := Ideal) (k0_pay6 q k) (k0_pay7 q k) v (ix2 r l)
      = headMul (score (fun d : Fin 512 => q (ix2 r ⟨1024 + d.val, by omega⟩)) (fun (j : Fin 256) d => k (ix2 j d)))
          (fun (j : Fin 256) l => v (ix2 j l)) l := by
  pointwise [k0_pay8, k0_pay7, k0_pay6]
  rfl

theorem pay9_apply (q : FVec Ideal S256x2048 .bf16) (k v : Vec Ideal S256x512 .bf16) (r : Fin 256) (l : Fin 512) :
    k0_pay9 (F := Ideal) q k v (ix2 r l)
      = headMul (score (fun d : Fin 512 => q (ix2 r ⟨1536 + d.val, by omega⟩)) (fun (j : Fin 256) d => k (ix2 j d)))
          (fun (j : Fin 256) l => v (ix2 j l)) l := by
  pointwise [k0_pay9]
  rfl

end Cert.AttnPay

end
-- ==== Proof.AttnKernel.lean ====
module

public import proofs.«01_k».proof.Proof.AttnPay
public import proofs.«01_k».proof.Proof.Gen.AttnIdeal.Value
public import Idealize.ShloMosaic.Lib.Pipeline.ReadBack
public import Idealize.ShloMosaic.Lib.Pipeline.ValueKit

@[expose] public section

set_option maxRecDepth 16384

noncomputable section

namespace Cert.AttnKernel

open Cert.AttnIdeal Cert.AttnIdeal.Gen Idealize.ShloMosaic Idealize.ShloMosaic.TcCoe Idealize.ShloMosaic.Tactic

theorem hz : (![0, 0] : Fin 2 → Nat) = fun _ => 0 := funext fun a => by fin_cases a <;> rfl

/-- Column `d` of head `h`. -/
def hcol (h : Fin 4) (d : Fin 512) : Fin 2048 := ⟨h.val * 512 + d.val, by omega⟩

/-- What the heads leave side by side: column `l` belongs to head `l / 512`. -/
def heads (q k v : Vec Ideal S256x2048 .bf16) : Vec Ideal S256x2048 .bf16 := fun y =>
  Rows.headMul (Rows.score (fun d : Fin 512 => q (ix2 (y 0) (hcol ⟨(y 1).val / 512, by have := (y 1).isLt; change _ < 2048 at this; omega⟩ d)))
      (fun (j : Fin 256) d => k (ix2 j (hcol ⟨(y 1).val / 512, by have := (y 1).isLt; change _ < 2048 at this; omega⟩ d))))
    (fun (j : Fin 256) d => v (ix2 j (hcol ⟨(y 1).val / 512, by have := (y 1).isLt; change _ < 2048 at this; omega⟩ d)))
    ⟨(y 1).val % 512, Nat.mod_lt _ (by decide)⟩

theorem heads_apply (q k v : Vec Ideal S256x2048 .bf16) (r : Fin 256) (h : Fin 4) (l : Fin 512) :
    heads q k v (ix2 r (hcol h l)) = Rows.headMul (Rows.score (fun d : Fin 512 => q (ix2 r (hcol h d))) (fun (j : Fin 256) d => k (ix2 j (hcol h d))))
      (fun (j : Fin 256) d => v (ix2 j (hcol h d))) l := by
  have hq : (⟨(hcol h l).val / 512, by have := (hcol h l).isLt; omega⟩ : Fin 4) = h := Fin.ext (by
    show (h.val * 512 + l.val) / 512 = h.val; have := l.isLt; omega)
  have hm : (⟨(hcol h l).val % 512, Nat.mod_lt _ (by decide)⟩ : Fin 512) = l := Fin.ext (by
    show (h.val * 512 + l.val) % 512 = l.val; have := l.isLt; omega)
  show Rows.headMul (Rows.score (fun d : Fin 512 => q (ix2 r (hcol ⟨(hcol h l).val / 512, _⟩ d))) (fun (j : Fin 256) d => k (ix2 j (hcol ⟨(hcol h l).val / 512, _⟩ d))))
      (fun (j : Fin 256) d => v (ix2 j (hcol ⟨(hcol h l).val / 512, _⟩ d))) ⟨(hcol h l).val % 512, _⟩ = _
  rw [hq, hm]

/-- A load of the 512 columns of head `h`. -/
theorem ld_head (X : Vec Ideal S256x2048 .bf16) (h : Fin 4) (o : ℕ) (ho : o = h.val * 512) (inb) (j : Fin 256) (d : Fin 512) :
    View.ld X (Rect.unit ![0, o] ![256, 512] inb) (ix2 j d) = X (ix2 j (hcol h d)) :=
  View.ld_unit_apply_of X _ _ inb (ix2 j d) _ fun a => by
    match a with
    | ⟨0, _⟩ => show j.val = 0 + j.val; omega
    | ⟨1, _⟩ => show h.val * 512 + d.val = o + d.val; omega

/-- Where the store of head `h`'s columns puts an element. -/
theorem emb_head (h : Fin 4) (o : ℕ) (ho : o = h.val * 512) (inb : ∀ a, (![0, o] : Fin 2 → ℕ) a + (![256, 512] : Fin 2 → ℕ) a ≤ S256x2048.size a) (j : Fin 256) (d : Fin 512) :
    (Rect.unit (s := S256x2048) ![0, o] ![256, 512] inb).emb (ix2 j d) = ix2 j (hcol h d) := by
  funext a
  apply Fin.ext
  refine (Rect.idx_unit_val _ _ inb (ix2 j d) a).trans ?_
  match a with
  | ⟨0, _⟩ => show 0 + j.val = j.val; omega
  | ⟨1, _⟩ => show o + d.val = h.val * 512 + d.val; omega

theorem col0 (d : Fin 512) (h) : (⟨d.val, h⟩ : Fin 2048) = hcol 0 d := Fin.ext (by show d.val = 0 * 512 + d.val; omega)
theorem col1 (d : Fin 512) (h) : (⟨512 + d.val, h⟩ : Fin 2048) = hcol 1 d := Fin.ext (by show 512 + d.val = 1 * 512 + d.val; omega)
theorem col2 (d : Fin 512) (h) : (⟨1024 + d.val, h⟩ : Fin 2048) = hcol 2 d := Fin.ext (by show 1024 + d.val = 2 * 512 + d.val; omega)
theorem col3 (d : Fin 512) (h) : (⟨1536 + d.val, h⟩ : Fin 2048) = hcol 3 d := Fin.ext (by show 1536 + d.val = 3 * 512 + d.val; omega)

variable (c : Dev nD) (i : grid0.Coords) (a1 : Memref sig .tc .vmem S256x2048 .f32) (h1 : a1.IsWhole)
  (a2 : Memref sig .tc .vmem S1x2048 .f32) (h2 : a2.IsWhole) (a3 : Memref sig .tc .vmem S2048x2048 .bf16) (h3 : a3.IsWhole)
  (a4 : Memref sig .tc .vmem S256x2048 .bf16) (h4 : a4.IsWhole) (a5 : Memref sig .tc .vmem S256x2048 .bf16) (h5 : a5.IsWhole)
  (a6 : Memref sig .tc .vmem S2048x2048 .bf16) (h6 : a6.IsWhole) (a7 : Memref sig .tc .vmem S256x2048 .f32) (h7 : a7.IsWhole)
  (a8 : Memref sig .tc .vmem S256x2048 .bf16) (h8 : a8.IsWhole)
  (x0 : Vec Ideal S256x2048 .f32) (x1 : Vec Ideal S1x2048 .f32) (x2 : Vec Ideal S2048x2048 .bf16)
  (x3 x4 : Vec Ideal S256x2048 .bf16) (x5 : Vec Ideal S2048x2048 .bf16)

/-- A block of the result: the rows plus the heads' columns times the output weights. -/
theorem out_A_6 :
    out0_A_6 (F := Ideal) c i a1 h1 a2 h2 a3 h3 a4 h4 a5 h5 a6 h6 a7 h7 a8 h8 x0 x1 x2 x3 x4 x5 = k0_pay1 x0 (heads (k0_pay2 x0 x1 x2) x3 x4) x5 := by
  unfold out0_A_6
  rw [View.read_writes_eq_canon _ _ _ (cover0_A_6 c i a1 h1 a2 h2 a3 h3 a4 h4 a5 h5 a6 h6 a7 h7 a8 h8 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x2048) hz, View.ld_unit_zero (S := S1x2048) hz,
    View.ld_unit_zero (S := S2048x2048) hz]
  refine congrArg (fun o => k0_pay1 x0 o x5) ?_
  rw [View.readCov_eq_canon']
  funext y
  refine (View.canon_append_of_piecesOf (heads (k0_pay2 x0 x1 x2) x3 x4) [] [_, _, _, _] ⟨?_, ?_, ?_, ?_, trivial⟩ _
    (View.cover_of_tiledL _ ![256, 512] (by sl_kernel_rfl) _)).trans ?_
  · intro p; obtain ⟨j, d, rfl⟩ : ∃ j d, p = ix2 j d := ⟨p 0, p 1, eq_ix2 p⟩
    rw [emb_head 3 1536 rfl, heads_apply]
    refine (AttnPay.pay9_apply _ _ _ j d).trans ?_
    simp only [col3]
    exact congrArg₂ (fun K V => Rows.headMul (Rows.score _ K) V d) (funext fun j => funext fun d => ld_head x3 3 1536 rfl _ j d)
      (funext fun j => funext fun d => ld_head x4 3 1536 rfl _ j d)
  · intro p; obtain ⟨j, d, rfl⟩ : ∃ j d, p = ix2 j d := ⟨p 0, p 1, eq_ix2 p⟩
    rw [emb_head 2 1024 rfl, heads_apply]
    refine (AttnPay.pay8_apply _ _ _ j d).trans ?_
    simp only [col2]
    exact congrArg₂ (fun K V => Rows.headMul (Rows.score _ K) V d) (funext fun j => funext fun d => ld_head x3 2 1024 rfl _ j d)
      (funext fun j => funext fun d => ld_head x4 2 1024 rfl _ j d)
  · intro p; obtain ⟨j, d, rfl⟩ : ∃ j d, p = ix2 j d := ⟨p 0, p 1, eq_ix2 p⟩
    rw [emb_head 1 512 rfl, heads_apply]
    refine (AttnPay.pay5_apply _ _ _ j d).trans ?_
    simp only [col1]
    exact congrArg₂ (fun K V => Rows.headMul (Rows.score _ K) V d) (funext fun j => funext fun d => ld_head x3 1 512 rfl _ j d)
      (funext fun j => funext fun d => ld_head x4 1 512 rfl _ j d)
  · intro p; obtain ⟨j, d, rfl⟩ : ∃ j d, p = ix2 j d := ⟨p 0, p 1, eq_ix2 p⟩
    rw [emb_head 0 0 rfl, heads_apply]
    refine (AttnPay.pay3_apply _ _ _ _ _ j d).trans ?_
    simp only [col0]
    exact congrArg₂ (fun K V => Rows.headMul (Rows.score _ K) V d) (funext fun j => funext fun d => ld_head x3 0 0 rfl _ j d)
      (funext fun j => funext fun d => ld_head x4 0 0 rfl _ j d)
  · refine congrArg _ (funext fun a => Fin.ext ?_)
    refine (Rect.idx_unit_val _ _ _ y a).trans ?_
    match a with
    | ⟨0, _⟩ => exact Nat.zero_add _
    | ⟨1, _⟩ => exact Nat.zero_add _

end Cert.AttnKernel

end
-- ==== Proof.AttnValue.lean ====
module

public import proofs.«01_k».proof.Proof.AttnKernel
public import proofs.«01_k».proof.Proof.Gen.AttnIdeal.Value

@[expose] public section

set_option maxRecDepth 16384

noncomputable section

/-! What the attention kernel leaves in its result, element by element. -/

namespace Cert.AttnValue

open Cert.AttnIdeal Cert.AttnIdeal.Gen Idealize.ShloMosaic Idealize.ShloMosaic.TcCoe Idealize.ShloMosaic.Tactic
open Idealize.ShloMosaic.StableHlo Cert.Rows Cert.AttnKernel

variable (m : (ℓ : Loc nD τ sig) → Buf (Elt Ideal) ℓ)

theorem V_v1 (c : Dev nD) (k : Fin 2048) : V m c main_v1 (ix2 0 k) = m ((c : Thread nD τ).loc main_arg1) (ix2 0 k) := by
  unfold V hostOps0
  after_results
  pointwise

theorem V_v3 (c : Dev nD) (k f : Fin 2048) :
    V m c main_v3 (ix2 k f) = m ((c : Thread nD τ).loc main_arg2) (ix3 0 k f) := by
  unfold V hostOps0
  after_results
  pointwise

theorem V_v5 (c : Dev nD) (k f : Fin 2048) :
    V m c main_v5 (ix2 k f) = m ((c : Thread nD τ).loc main_arg5) (ix3 0 k f) := by
  unfold V hostOps0
  after_results
  pointwise

/-- The blocks of a grid point. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = t.val / 16 ∧ win0_3.index t 1 = 0 := (by decide +kernel : ∀ t : Fin grid0.N, _)
theorem index4 : ∀ t : Fin cfg0.N, win0_4.index t 0 = t.val / 16 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem flush6 : ∀ t : Fin cfg0.N, (cfg0.win 6).flush t = true := (by decide +kernel : ∀ t : Fin grid0.N, win0_6.flush t = true)

theorem iblk0 (c : Dev nD) (t : Fin cfg0.N) (r : Fin 256) (k : Fin 2048) (h : t.val * 256 + r.val < 16384) :
    iblk m c 0 t (ix2 r k) = m ((c : Thread nD τ).loc main_arg0) (ix2 ⟨t.val * 256 + r.val, h⟩ k) := by
  rw [← V_main_arg0 m c]
  unfold iblk
  rw [View.read_apply]
  show V m c main_arg0 _ = _
  congr 1
  funext a
  apply Fin.ext
  match a with
  | ⟨0, _⟩ =>
    show win0_0.index t 0 * 256 + 1 * r.val = t.val * 256 + r.val
    rw [(index0 t).1]; omega
  | ⟨1, _⟩ =>
    show win0_0.index t 1 * 2048 + 1 * k.val = k.val
    rw [(index0 t).2]; omega

theorem iblk1 (c : Dev nD) (t : Fin cfg0.N) (k : Fin 2048) :
    iblk m c 1 t (ix2 0 k) = m ((c : Thread nD τ).loc main_arg1) (ix2 0 k) := by
  rw [← V_v1 m c]
  unfold iblk
  rw [View.read_apply]
  show V m c main_v1 _ = _
  congr 1
  funext a
  apply Fin.ext
  match a with
  | ⟨0, _⟩ =>
    show win0_1.index t 0 * 1 + 1 * 0 = 0
    rw [(index1 t).1]
  | ⟨1, _⟩ =>
    show win0_1.index t 1 * 2048 + 1 * k.val = k.val
    rw [(index1 t).2]; omega

theorem iblk2 (c : Dev nD) (t : Fin cfg0.N) (k f : Fin 2048) :
    iblk m c 2 t (ix2 k f) = m ((c : Thread nD τ).loc main_arg2) (ix3 0 k f) := by
  rw [← V_v3 m c]
  unfold iblk
  rw [View.read_apply]
  show V m c main_v3 _ = _
  congr 1
  funext a
  apply Fin.ext
  match a with
  | ⟨0, _⟩ =>
    show win0_2.index t 0 * 2048 + 1 * k.val = k.val
    rw [(index2 t).1]; omega
  | ⟨1, _⟩ =>
    show win0_2.index t 1 * 2048 + 1 * f.val = f.val
    rw [(index2 t).2]; omega

theorem iblk3 (c : Dev nD) (t : Fin cfg0.N) (j : Fin 256) (k : Fin 2048) (h : t.val / 16 * 256 + j.val < 1024) :
    iblk m c 3 t (ix2 j k) = m ((c : Thread nD τ).loc main_arg3) (ix2 ⟨t.val / 16 * 256 + j.val, h⟩ k) := by
  rw [← V_main_arg3 m c]
  unfold iblk
  rw [View.read_apply]
  show V m c main_arg3 _ = _
  congr 1
  funext a
  apply Fin.ext
  match a with
  | ⟨0, _⟩ =>
    show win0_3.index t 0 * 256 + 1 * j.val = t.val / 16 * 256 + j.val
    rw [(index3 t).1]; omega
  | ⟨1, _⟩ =>
    show win0_3.index t 1 * 2048 + 1 * k.val = k.val
    rw [(index3 t).2]; omega

theorem iblk4 (c : Dev nD) (t : Fin cfg0.N) (j : Fin 256) (k : Fin 2048) (h : t.val / 16 * 256 + j.val < 1024) :
    iblk m c 4 t (ix2 j k) = m ((c : Thread nD τ).loc main_arg4) (ix2 ⟨t.val / 16 * 256 + j.val, h⟩ k) := by
  rw [← V_main_arg4 m c]
  unfold iblk
  rw [View.read_apply]
  show V m c main_arg4 _ = _
  congr 1
  funext a
  apply Fin.ext
  match a with
  | ⟨0, _⟩ =>
    show win0_4.index t 0 * 256 + 1 * j.val = t.val / 16 * 256 + j.val
    rw [(index4 t).1]; omega
  | ⟨1, _⟩ =>
    show win0_4.index t 1 * 2048 + 1 * k.val = k.val
    rw [(index4 t).2]; omega

theorem iblk5 (c : Dev nD) (t : Fin cfg0.N) (k f : Fin 2048) :
    iblk m c 5 t (ix2 k f) = m ((c : Thread nD τ).loc main_arg5) (ix3 0 k f) := by
  rw [← V_v5 m c]
  unfold iblk
  rw [View.read_apply]
  show V m c main_v5 _ = _
  congr 1
  funext a
  apply Fin.ext
  match a with
  | ⟨0, _⟩ =>
    show win0_5.index t 0 * 2048 + 1 * k.val = k.val
    rw [(index5 t).1]; omega
  | ⟨1, _⟩ =>
    show win0_5.index t 1 * 2048 + 1 * f.val = f.val
    rw [(index5 t).2]; omega

/-- The row a point's block row is, and the memory rows of its batch. -/
theorem out_emb (t : Fin cfg0.N) (r : Fin 256) (l : Fin 2048) (h : t.val * 256 + r.val < 16384) :
    (((cfg0.win 6).blk t).view.emb (ix2 r l) : S16384x2048.Idx) = ix2 ⟨t.val * 256 + r.val, h⟩ l := by
  funext a
  apply Fin.ext
  match a with
  | ⟨0, _⟩ =>
    show win0_6.index t 0 * 256 + 1 * r.val = t.val * 256 + r.val
    rw [(index6 t).1]; omega
  | ⟨1, _⟩ =>
    show win0_6.index t 1 * 2048 + 1 * l.val = l.val
    rw [(index6 t).2]; omega

/-- Row `R` of the result array is written by point `t` with the point's payload. -/
theorem arr_block (c : Dev nD) (t : Fin cfg0.N) (r : Fin 256) (l : Fin 2048) (h : t.val * 256 + r.val < 16384) :
    ((dats m 0 c).arrAt 6 cfg0.N : Vec Ideal S16384x2048 .f32) (ix2 ⟨t.val * 256 + r.val, h⟩ l)
      = k0_pay1 (F := Ideal) (iblk m c 0 t) (heads (k0_pay2 (iblk m c 0 t) (iblk m c 1 t) (iblk m c 2 t)) (iblk m c 3 t) (iblk m c 4 t)) (iblk m c 5 t) (ix2 r l) := by
  have hb := Cert.AttnIdeal.Value.blocks6 m c t (flush6 t)
  rw [Cert.AttnIdeal.Value.flushed6_A, out_A_6] at hb
  have he := congrFun hb (ix2 r l)
  rw [View.read_apply] at he
  rw [← out_emb t r l h]
  exact he

/-- Row `R` of the queries: the norm of the row times the query weights. -/
def qRow (c : Dev nD) (R : Fin 16384) : Fin 2048 → EReal :=
  vecMat (rms width (fun j => m ((c : Thread nD τ).loc main_arg0) (ix2 R j)) (fun j => m ((c : Thread nD τ).loc main_arg1) (ix2 0 j)))
    (fun (k : Fin 2048) f => m ((c : Thread nD τ).loc main_arg2) (ix3 0 k f))

/-- Memory row `j` of the batch that row `R` belongs to. -/
def memRow (R : Fin 16384) (j : Fin 256) : Fin 1024 := ⟨R.val / 4096 * 256 + j.val, by omega⟩

/-- Row `R`'s scores in head `h`. -/
def scores (c : Dev nD) (R : Fin 16384) (h : Fin 4) : Fin 256 → EReal :=
  score (fun d : Fin 512 => qRow m c R (hcol h d)) (fun (j : Fin 256) d => m ((c : Thread nD τ).loc main_arg3) (ix2 (memRow R j) (hcol h d)))

/-- The values of head `h` in row `R`'s batch. -/
def vals (c : Dev nD) (R : Fin 16384) (h : Fin 4) : Fin 256 → Fin 512 → EReal :=
  fun j d => m ((c : Thread nD τ).loc main_arg4) (ix2 (memRow R j) (hcol h d))

theorem pay2_block (c : Dev nD) (t : Fin cfg0.N) (r : Fin 256) (l : Fin 2048) (h : t.val * 256 + r.val < 16384) :
    k0_pay2 (F := Ideal) (iblk m c 0 t) (iblk m c 1 t) (iblk m c 2 t) (ix2 r l) = qRow m c ⟨t.val * 256 + r.val, h⟩ l := by
  rw [Cert.AttnPay.pay2_apply]
  unfold qRow
  simp only [iblk0 m c t _ _ h, iblk1, iblk2]

theorem heads_block (c : Dev nD) (t : Fin cfg0.N) (r : Fin 256) (h : Fin 4) (d : Fin 512) (hr : t.val * 256 + r.val < 16384) :
    heads (k0_pay2 (iblk m c 0 t) (iblk m c 1 t) (iblk m c 2 t)) (iblk m c 3 t) (iblk m c 4 t) (ix2 r (hcol h d))
      = headMul (scores m c ⟨t.val * 256 + r.val, hr⟩ h) (vals m c ⟨t.val * 256 + r.val, hr⟩ h) d := by
  have hj : ∀ j : Fin 256, ∃ hh : t.val / 16 * 256 + j.val < 1024, (⟨t.val / 16 * 256 + j.val, hh⟩ : Fin 1024) = memRow ⟨t.val * 256 + r.val, hr⟩ j := by
    intro j
    have ht : t.val < 64 := t.isLt
    refine ⟨by omega, Fin.ext ?_⟩
    show t.val / 16 * 256 + j.val = (t.val * 256 + r.val) / 4096 * 256 + j.val
    omega
  rw [heads_apply]
  unfold scores vals
  congr 1
  · congr 1
    · funext d; exact pay2_block m c t r _ hr
    · funext j d
      obtain ⟨hh, e⟩ := hj j
      rw [iblk3 m c t j _ hh, e]
  · funext j d
    obtain ⟨hh, e⟩ := hj j
    rw [iblk4 m c t j _ hh, e]

/-- Row `R` of the input, and the output weights. -/
def xRow (c : Dev nD) (R : Fin 16384) (l : Fin 2048) : EReal := m ((c : Thread nD τ).loc main_arg0) (ix2 R l)
def wOut (c : Dev nD) (k l : Fin 2048) : EReal := m ((c : Thread nD τ).loc main_arg5) (ix3 0 k l)

/-- The result of the attention kernel: the row plus its heads' columns times the output weights. -/
theorem arr_apply (c : Dev nD) (R : Fin 16384) (l : Fin 2048) :
    ((dats m 0 c).arrAt 6 cfg0.N : Vec Ideal S16384x2048 .f32) (ix2 R l)
      = xRow m c R l
        + ∑ k : Fin 2048, headMul (scores m c R ⟨k.val / 512, by omega⟩) (vals m c R ⟨k.val / 512, by omega⟩) ⟨k.val % 512, by omega⟩
            * wOut m c k l := by
  have ht : R.val / 256 < cfg0.N := by show R.val / 256 < 64; omega
  have hr : (⟨R.val / 256, ht⟩ : Fin cfg0.N).val * 256 + (⟨R.val % 256, by omega⟩ : Fin 256).val < 16384 := by
    show R.val / 256 * 256 + R.val % 256 < 16384; omega
  have hR : (⟨_, hr⟩ : Fin 16384) = R := Fin.ext (by show R.val / 256 * 256 + R.val % 256 = R.val; omega)
  have h := arr_block m c ⟨R.val / 256, ht⟩ ⟨R.val % 256, by omega⟩ l hr
  rw [Cert.AttnPay.pay1_apply, iblk0 m c _ _ _ hr, hR] at h
  refine h.trans (congrArg _ ?_)
  unfold vecMat
  refine Finset.sum_congr rfl fun k _ => ?_
  have hk : hcol ⟨k.val / 512, by omega⟩ ⟨k.val % 512, by omega⟩ = k := Fin.ext (by show k.val / 512 * 512 + k.val % 512 = k.val; omega)
  have hh := heads_block m c ⟨R.val / 256, ht⟩ ⟨R.val % 256, by omega⟩ ⟨k.val / 512, by omega⟩ ⟨k.val % 512, by omega⟩ hr
  rw [hk, hR] at hh
  exact congrArg₂ (fun a b : EReal => a * b) hh (iblk5 m c _ k l)

end Cert.AttnValue

end
-- ==== Proof.AttnRefValue.lean ====
module

public import proofs.«01_k».proof.Proof.AttnRows
public import proofs.«01_k».proof.Proof.Gen.AttnRefIdeal.Read

@[expose] public section

set_option maxRecDepth 16384

noncomputable section

namespace Cert.AttnRefValue

open Cert.AttnRefIdeal Cert.AttnRefIdeal.Gen Cert.AttnRefIdeal.Read Cert.Rows Idealize.ShloMosaic

variable (x0 : (⟨S16384x2048, .f32⟩ : BufTy).Contents (Elt Ideal)) (x1 : (⟨S1x2048, .f32⟩ : BufTy).Contents (Elt Ideal))
  (x2 : (⟨S1x2048x2048, .f32⟩ : BufTy).Contents (Elt Ideal)) (x3 x4 : (⟨S1024x2048, .bf16⟩ : BufTy).Contents (Elt Ideal))
  (x5 : (⟨S1x2048x2048, .f32⟩ : BufTy).Contents (Elt Ideal))

/-- Row `s` of batch `b`, as a row of the argument. -/
def brow (b : Fin 4) (s : Fin 4096) : Fin 16384 := ⟨b.val * 4096 + s.val, by omega⟩
/-- Memory row `j` of batch `b`. -/
def mrow (b : Fin 4) (j : Fin 256) : Fin 1024 := ⟨b.val * 256 + j.val, by omega⟩
/-- Column `d` of head `h`. -/
def hcol (h : Fin 4) (d : Fin 512) : Fin 2048 := ⟨h.val * 512 + d.val, by omega⟩

/-- The reference's queries, by batch, row, head and column. -/
theorem v17_apply (b : Fin 4) (s : Fin 4096) (h : Fin 4) (d : Fin 512) :
    val_main_v17 x0 x1 x2 (ix4 b s h d) = vecMat (rms width (fun j => x0 (ix2 (brow b s) j)) (fun j => x1 (ix2 0 j)))
      (fun (k : Fin 2048) f => x2 (ix3 0 k f)) (hcol h d) := by
  pointwise [val_main_v17, val_main_v16, val_main_v15, val_main_v14, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- The scores of a query against the batch's memory rows. -/
theorem v24_apply (b : Fin 4) (h : Fin 4) (s : Fin 4096) (j : Fin 256) :
    val_main_v24 x0 x1 x2 x3 (ix4 b h s j)
      = score (fun d => val_main_v17 x0 x1 x2 (ix4 b s h d)) (fun j d => x3 (ix2 (mrow b j) (hcol h d))) j := by
  unfold val_main_v24 val_main_v22
  generalize val_main_v17 x0 x1 x2 = q
  pointwise [val_main_v23, val_main_cst_2, val_main_v19, val_main_v18]
  rfl

theorem v25_apply (b : Fin 4) (h : Fin 4) (s : Fin 4096) :
    val_main_v25 x0 x1 x2 x3 (ix3 b h s) = top fun j : Fin 256 => val_main_v24 x0 x1 x2 x3 (ix4 b h s j) := by
  unfold val_main_v25
  generalize val_main_v24 x0 x1 x2 x3 = q
  refine (Host.reduce_eq_fold_single (s := S4x4x4096x256) (t := S4x4x4096) _ q (val_main_cst_3 (F := Ideal))
    reducesTo_S4x4x4096x256_S4x4x4096_d3 (by decide) h_S_ (ix3 b h s)).trans ?_
  show Finset.fold max _ _ (Finset.univ : Finset (Fin 256)) = Finset.fold max _ _ Finset.univ
  refine congrArg₂ (fun a f => Finset.fold max a f (Finset.univ : Finset (Fin 256))) rfl (funext fun j => congrArg q ?_)
  funext a
  apply Fin.ext
  match a with
  | ⟨0, _⟩ => rfl
  | ⟨1, _⟩ => rfl
  | ⟨2, _⟩ => rfl
  | ⟨3, _⟩ => rfl

theorem v27_apply (b : Fin 4) (h : Fin 4) (s : Fin 4096) :
    val_main_v27 x0 x1 x2 x3 (ix3 b h s) = max least (top fun j : Fin 256 => val_main_v24 x0 x1 x2 x3 (ix4 b h s j)) := by
  rw [val_main_v27_apply, val_main_v26_apply, val_main_cst_4_apply, v25_apply, Ideal.maximumf_def, Ideal.ofBits_def]

theorem v31_apply (b : Fin 4) (h : Fin 4) (s : Fin 4096) (j : Fin 256) :
    val_main_v31 x0 x1 x2 x3 (ix4 b h s j)
      = Ideal.exp (val_main_v24 x0 x1 x2 x3 (ix4 b h s j) - val_main_v27 x0 x1 x2 x3 (ix3 b h s)) := by
  unfold val_main_v31 val_main_v30 val_main_v29 val_main_v28
  generalize val_main_v24 x0 x1 x2 x3 = q
  generalize val_main_v27 x0 x1 x2 x3 = t
  pointwise

theorem v35_apply (b : Fin 4) (h : Fin 4) (s : Fin 4096) (j : Fin 256) :
    val_main_v35 x0 x1 x2 x3 (ix4 b h s j)
      = Ideal.div (val_main_v31 x0 x1 x2 x3 (ix4 b h s j)) (∑ j : Fin 256, val_main_v31 x0 x1 x2 x3 (ix4 b h s j)) := by
  unfold val_main_v35 val_main_v34 val_main_v33 val_main_v32
  generalize val_main_v31 x0 x1 x2 x3 = e
  pointwise [val_main_cst_5]

theorem v37_apply (b : Fin 4) (s : Fin 4096) (h : Fin 4) (d : Fin 512) :
    val_main_v37 x0 x1 x2 x3 x4 (ix4 b s h d)
      = ∑ j : Fin 256, x4 (ix2 (mrow b j) (hcol h d)) * val_main_v35 x0 x1 x2 x3 (ix4 b h s j) := by
  unfold val_main_v37 val_main_v36
  generalize val_main_v35 x0 x1 x2 x3 = p
  pointwise [val_main_v21, val_main_v20]
  rfl

/-- The reference's result: the rows plus the heads' columns times the output weights. -/
theorem v42_apply (r : Fin 16384) (l : Fin 2048) :
    val_main_v42 x0 x1 x2 x3 x4 x5 (ix2 r l) = x0 (ix2 r l)
      + ∑ k : Fin 2048, val_main_v37 x0 x1 x2 x3 x4 (ix4 ⟨r.val / 4096, by omega⟩ ⟨r.val % 4096, by omega⟩ ⟨k.val / 512, by omega⟩ ⟨k.val % 512, by omega⟩)
          * x5 (ix3 0 k l) := by
  unfold val_main_v42 val_main_v41 val_main_v40 val_main_v38
  generalize val_main_v37 x0 x1 x2 x3 x4 = q
  pointwise [val_main_v39, val_main_v0]

end Cert.AttnRefValue

end
-- ==== Proof.AttnClaim.lean ====
module

public import proofs.«01_k».proof.Defs
public import proofs.«01_k».proof.Proof.Finite
public import proofs.«01_k».proof.Proof.AttnValue
public import proofs.«01_k».proof.Proof.AttnRefValue
public import proofs.«01_k».proof.Proof.Gen.Attn.Frame
public import proofs.«01_k».proof.Proof.Gen.AttnRefIdeal.Run

@[expose] public section

noncomputable section

/-! The claims about the attention call. -/

namespace Cert.AttnClaim

open Cert.Rows Idealize.ShloMosaic Idealize.ShloMosaic.TcCoe Idealize.SL.Sem

instance preFacts : Cert.Pre_scores_finite.Facts := ⟨by decide, by decide, by decide, by decide⟩

theorem frame : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_scores_finite := fun m ρ _ => Cert.AttnIdeal.Gen.frame m ρ

theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem frame_ref_pre : Cert.quiescent_AttnRefIdeal_pre_scores_finite := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem preserves : Cert.preserves_Attn_AttnIdeal := trivial

section Pre

variable {m : (ℓ : Loc Cert.AttnIdeal.nD Cert.AttnIdeal.τ Cert.AttnIdeal.sig) → Buf (Elt Ideal) ℓ}

/-- Under the precondition the gain, the query weights and the keys are real. -/
theorem gain_real (h : Cert.Pre_AttnIdeal_scores_finite m) (c : Dev Cert.AttnIdeal.nD) (k : Fin 2048) :
    IsReal (m ((c : Thread Cert.AttnIdeal.nD Cert.AttnIdeal.τ).loc Cert.AttnIdeal.main_arg1) (ix2 0 k)) :=
  isReal_of_lt (congrFun (h c).1 (ix2 0 k))

theorem query_real (h : Cert.Pre_AttnIdeal_scores_finite m) (c : Dev Cert.AttnIdeal.nD) (k l : Fin 2048) :
    IsReal (m ((c : Thread Cert.AttnIdeal.nD Cert.AttnIdeal.τ).loc Cert.AttnIdeal.main_arg2) (ix3 0 k l)) :=
  isReal_of_lt (congrFun (h c).2.1 (ix3 0 k l))

theorem key_real (h : Cert.Pre_AttnIdeal_scores_finite m) (c : Dev Cert.AttnIdeal.nD) (j : Fin 1024) (l : Fin 2048) :
    IsReal (m ((c : Thread Cert.AttnIdeal.nD Cert.AttnIdeal.τ).loc Cert.AttnIdeal.main_arg3) (ix2 j l)) :=
  isReal_of_lt (congrFun (h c).2.2 (ix2 j l))

theorem scores_real (h : Cert.Pre_AttnIdeal_scores_finite m) (c : Dev Cert.AttnIdeal.nD) (R : Fin 16384) (hd : Fin 4) (j : Fin 256) :
    IsReal (Cert.AttnValue.scores m c R hd j) :=
  isReal_score _ _ j
    (fun _ => isReal_vecMat _ _ _ (fun k => isReal_rms _ _ k (gain_real h c k)) fun k => query_real h c k _)
    fun _ => key_real h c _ _

end Pre

/-- A head of the reference, from the same rows as the kernel's. -/
theorem ref_head (m : (ℓ : Loc Cert.AttnIdeal.nD Cert.AttnIdeal.τ Cert.AttnIdeal.sig) → Buf (Elt Ideal) ℓ) (c : Dev Cert.AttnIdeal.nD)
    (R : Fin 16384) (h : Fin 4) (d : Fin 512) :
    Cert.AttnRefIdeal.Read.val_main_v37 (F := Ideal) (m ((c : Thread Cert.AttnIdeal.nD Cert.AttnIdeal.τ).loc Cert.AttnIdeal.main_arg0))
        (m ((c : Thread Cert.AttnIdeal.nD Cert.AttnIdeal.τ).loc Cert.AttnIdeal.main_arg1))
        (m ((c : Thread Cert.AttnIdeal.nD Cert.AttnIdeal.τ).loc Cert.AttnIdeal.main_arg2))
        (m ((c : Thread Cert.AttnIdeal.nD Cert.AttnIdeal.τ).loc Cert.AttnIdeal.main_arg3))
        (m ((c : Thread Cert.AttnIdeal.nD Cert.AttnIdeal.τ).loc Cert.AttnIdeal.main_arg4))
        (ix4 ⟨R.val / 4096, by omega⟩ ⟨R.val % 4096, by omega⟩ h d)
      = headDiv (Cert.AttnValue.scores m c R h) (Cert.AttnValue.vals m c R h) d := by
  have hR : Cert.AttnRefValue.brow ⟨R.val / 4096, by omega⟩ ⟨R.val % 4096, by omega⟩ = R :=
    Fin.ext (by show R.val / 4096 * 4096 + R.val % 4096 = R.val; omega)
  rw [Cert.AttnRefValue.v37_apply]
  simp only [Cert.AttnRefValue.v35_apply, Cert.AttnRefValue.v31_apply, Cert.AttnRefValue.v27_apply, max_least, Cert.AttnRefValue.v24_apply, Cert.AttnRefValue.v17_apply, hR]
  rfl

/-- The reference's result and the kernel's are one array when the arguments are, and the scores are real. -/
theorem algebraic : Cert.algebraic_AttnIdeal_AttnRefIdeal_pre_scores_finite := by
  intro m ρ m' ρ' hpre hagree
  refine ⟨fun c => (Cert.AttnIdeal.Gen.dats m 0 c).arrAt 6 Cert.AttnIdeal.cfg0.N, Cert.AttnIdeal.Value.run_blocks m ρ, ?_⟩
  refine (θ_run Cert.AttnRefIdeal.defs _ _).mono (fun _ h c => ?_) (Cert.AttnRefIdeal.Value.run (F := Ideal) m' ρ')
  refine ⟨(h c).1.trans ?_, (h c).2⟩
  obtain ⟨h0, h1, h2, h3, h4, h5⟩ := hagree c
  rw [Cert.AttnRefIdeal.Read.val_main_v42_eq m' c, h0, h1, h2, h3, h4, h5]
  funext j
  obtain ⟨R, l, rfl⟩ : ∃ (R : Fin 16384) (l : Fin 2048), j = ix2 R l := ⟨j 0, j 1, eq_ix2 j⟩
  refine (Cert.AttnRefValue.v42_apply _ _ _ _ _ _ R l).trans ?_
  refine Eq.trans ?_ (Cert.AttnValue.arr_apply m c R l).symm
  refine congrArg₂ (fun a b : EReal => a + b) rfl (Finset.sum_congr rfl fun k _ => ?_)
  refine congrArg₂ (fun a b : EReal => a * b) ?_ rfl
  rw [ref_head m c R _ _, headMul_eq _ _ _ fun j => scores_real hpre c R _ j]

end Cert.AttnClaim

end
-- ==== Proof.FfnPay.lean ====
module

public import proofs.«01_k».proof.Proof.Rows
public import proofs.«01_k».proof.Proof.Gen.FfnIdeal.Skeleton

@[expose] public section

set_option maxRecDepth 16384

noncomputable section

namespace Cert.FfnPay

open Cert.FfnIdeal Cert.FfnIdeal.Gen Cert.Rows Idealize.ShloMosaic

/-- The block's normed rows. -/
theorem pay1_apply (x : Vec Ideal S512x2048 .f32) (g : Vec Ideal S1x2048 .f32) (r : Fin 512) (k : Fin 2048) :
    k0_pay1 (F := Ideal) x g (ix2 r k) = rms width (fun j => x (ix2 r j)) (fun j => g (ix2 0 j)) k := by
  pointwise [k0_pay1]
  rfl

theorem pay2_eq (x : Vec Ideal S512x2048 .f32) : k0_pay2 (F := Ideal) x = x := shapeCast_self _ _

theorem pay3_apply (h : Vec Ideal S512x2048 .bf16) (wg wu : Vec Ideal S2048x512 .bf16) (a : Vec Ideal S512x2048 .f32)
    (wd : Vec Ideal S512x2048 .bf16) (r : Fin 512) (l : Fin 2048) :
    k0_pay3 (F := Ideal) h wg wu a wd (ix2 r l) = a (ix2 r l) + ∑ f : Fin 512,
      swiglu (vecMat (fun k => h (ix2 r k)) (fun (k : Fin 2048) f => wg (ix2 k f)) f) (vecMat (fun k => h (ix2 r k)) (fun (k : Fin 2048) f => wu (ix2 k f)) f) * wd (ix2 f l) := by
  pointwise [k0_pay3]
  rfl

theorem pay4_apply (x : Vec Ideal S512x2048 .f32) (g : Vec Ideal S1x2048 .f32) (r : Fin 512) (k : Fin 2048) :
    k0_pay4 (F := Ideal) x g (ix2 r k) = rms width (fun j => x (ix2 r j)) (fun j => g (ix2 0 j)) k := by
  pointwise [k0_pay4]
  rfl

end Cert.FfnPay

end
-- ==== Proof.FfnKernel.lean ====
module

public import proofs.«01_k».proof.Proof.FfnPay
public import proofs.«01_k».proof.Proof.Gen.FfnIdeal.Value

@[expose] public section

set_option maxRecDepth 16384

noncomputable section

namespace Cert.FfnKernel

open Cert.FfnIdeal Cert.FfnIdeal.Gen Idealize.ShloMosaic Idealize.ShloMosaic.TcCoe Idealize.ShloMosaic.Tactic

theorem hz : (![0, 0] : Fin 2 → Nat) = fun _ => 0 := funext fun a => by fin_cases a <;> rfl

section cases

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .bf16) (h9 : a9.IsWhole) (a10 : Memref sig .tc .vmem S512x2048 .f32) (h10 : a10.IsWhole)
  (x0 : Vec Ideal S512x2048 .f32) (x1 : Vec Ideal S1x2048 .f32) (x2 x3 : Vec Ideal S2048x512 .bf16)
  (x4 : Vec Ideal S512x2048 .bf16) (x5 : Vec Ideal S1x2048 .f32) (xs0 : Vec Ideal S512x2048 .bf16) (xs1 : Vec Ideal S512x2048 .f32)

/-- At the first column tile of a row tile the first scratch takes the normed rows. -/
theorem sout_A_0 (hc0 : cond0_0 i) (hc1 : ¬cond0_1 i) :
    sout0_A_0 (F := Ideal) c i a2 h2 a3 h3 a4 h4 a5 h5 a6 h6 a7 h7 a8 h8 a9 h9 a10 h10 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- There the second scratch takes the rows plus the first tile's share of the product. -/
theorem sout_A_1 (hc0 : cond0_0 i) (hc1 : ¬cond0_1 i) :
    sout0_A_1 (F := Ideal) c i a2 h2 a3 h3 a4 h4 a5 h5 a6 h6 a7 h7 a8 h8 a9 h9 a10 h10 hc0 hc1 x0 x1 x2 x3 x4 x5
      = k0_pay3 (k0_pay1 x0 x1) x2 x3 x0 x4 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread,
    h5.read_unread, h6.read_unread, View.ld_unit_zero (S := S512x2048) hz, View.ld_unit_zero (S := S1x2048) hz,
    View.ld_unit_zero (S := S2048x512) hz, FfnPay.pay2_eq]

/-- At a middle column tile the second scratch gains the tile's share. -/
theorem sout_B_1 (hc0 : ¬cond0_0 i) (hc1 : ¬cond0_1 i) :
    sout0_B_1 (F := Ideal) c i a2 h2 a3 h3 a4 h4 a5 h5 a6 h6 a7 h7 a8 h8 a9 h9 a10 h10 hc0 hc1 x0 x1 x2 x3 x4 x5 xs0 xs1
      = k0_pay3 xs0 x2 x3 xs1 x4 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz]
  simp only [View.readAt_eq_ld, h4.read_unread, h5.read_unread, h6.read_unread, h9.read_unread, h10.read_unread,
    View.ld_unit_zero (S := S512x2048) hz, View.ld_unit_zero (S := S2048x512) hz]

/-- At the last column tile the output block takes the normed rows of the finished sum. -/
theorem out_C_6 (hc0 : ¬cond0_0 i) (hc1 : cond0_1 i) :
    out0_C_6 (F := Ideal) c i a2 h2 a3 h3 a4 h4 a5 h5 a6 h6 a7 h7 a8 h8 a9 h9 a10 h10 hc0 hc1 x0 x1 x2 x3 x4 x5 xs0 xs1
      = k0_pay4 (k0_pay3 xs0 x2 x3 xs1 x4) x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readCov_unit_zero (S := S512x2048) _ hz, View.readAt_eq_ld, h4.read_unread, h5.read_unread, h6.read_unread,
    h7.read_unread, h9.read_unread, h10.read_unread, View.ld_unit_zero (S := S512x2048) hz, View.ld_unit_zero (S := S1x2048) hz,
    View.ld_unit_zero (S := S2048x512) hz]

/-- There the second scratch gains the last tile's share. -/
theorem sout_C_1 (hc0 : ¬cond0_0 i) (hc1 : cond0_1 i) :
    sout0_C_1 (F := Ideal) c i a2 h2 a3 h3 a4 h4 a5 h5 a6 h6 a7 h7 a8 h8 a9 h9 a10 h10 hc0 hc1 x0 x1 x2 x3 x4 x5 xs0 xs1
      = k0_pay3 xs0 x2 x3 xs1 x4 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h4.read_unread, h5.read_unread, h6.read_unread, h9.read_unread, h10.read_unread,
    View.ld_unit_zero (S := S512x2048) hz, View.ld_unit_zero (S := S2048x512) hz]

end cases

end Cert.FfnKernel

end
-- ==== Proof.FfnBlocks.lean ====
module

public import proofs.«01_k».proof.Proof.Rows
public import proofs.«01_k».proof.Proof.Gen.FfnIdeal.Value

@[expose] public section

set_option maxRecDepth 16384

noncomputable section

namespace Cert.FfnBlocks

open Cert.FfnIdeal Cert.FfnIdeal.Gen Idealize.ShloMosaic Idealize.ShloMosaic.TcCoe Idealize.ShloMosaic.Tactic
open Idealize.ShloMosaic.StableHlo

variable (m : (ℓ : Loc nD τ sig) → Buf (Elt Ideal) ℓ)

theorem V_v1 (c : Dev nD) (k : Fin 2048) : V m c main_v1 (ix2 0 k) = m ((c : Thread nD τ).loc main_arg1) (ix2 0 k) := by
  unfold V hostOps0
  after_results
  pointwise

theorem V_v3 (c : Dev nD) (k : Fin 2048) (f : Fin 5632) :
    V m c main_v3 (ix2 k f) = m ((c : Thread nD τ).loc main_arg2) (ix3 0 k f) := by
  unfold V hostOps0
  after_results
  pointwise

theorem V_v5 (c : Dev nD) (k : Fin 2048) (f : Fin 5632) :
    V m c main_v5 (ix2 k f) = m ((c : Thread nD τ).loc main_arg3) (ix3 0 k f) := by
  unfold V hostOps0
  after_results
  pointwise

theorem V_v7 (c : Dev nD) (f : Fin 5632) (k : Fin 2048) :
    V m c main_v7 (ix2 f k) = m ((c : Thread nD τ).loc main_arg4) (ix3 0 f k) := by
  unfold V hostOps0
  after_results
  pointwise

theorem V_v8 (c : Dev nD) (k : Fin 2048) : V m c main_v8 (ix2 0 k) = m ((c : Thread nD τ).loc main_arg5) (ix1 k) := by
  unfold V hostOps0
  after_results
  pointwise

/-- The row tile and the column tile of a grid point. -/
theorem index0 : ∀ t : Fin cfg0.N, win0_0.index t 0 = t.val / 11 ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = t.val % 11 := (by decide +kernel : ∀ t : Fin grid0.N, _)
theorem index3 : ∀ t : Fin cfg0.N, win0_3.index t 0 = 0 ∧ win0_3.index t 1 = t.val % 11 := (by decide +kernel : ∀ t : Fin grid0.N, _)
theorem index4 : ∀ t : Fin cfg0.N, win0_4.index t 0 = t.val % 11 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)

theorem iblk0 (c : Dev nD) (t : Fin cfg0.N) (r : Fin 512) (k : Fin 2048) (h : t.val / 11 * 512 + r.val < 16384) :
    iblk m c 0 t (ix2 r k) = m ((c : Thread nD τ).loc main_arg0) (ix2 ⟨t.val / 11 * 512 + r.val, h⟩ k) := by
  rw [← V_main_arg0 m c]
  unfold iblk
  rw [View.read_apply]
  show V m c main_arg0 _ = _
  congr 1
  funext a
  apply Fin.ext
  match a with
  | ⟨0, _⟩ =>
    show win0_0.index t 0 * 512 + 1 * r.val = t.val / 11 * 512 + r.val
    rw [(index0 t).1]; omega
  | ⟨1, _⟩ =>
    show win0_0.index t 1 * 2048 + 1 * k.val = k.val
    rw [(index0 t).2]; omega

theorem iblk1 (c : Dev nD) (t : Fin cfg0.N) (k : Fin 2048) :
    iblk m c 1 t (ix2 0 k) = m ((c : Thread nD τ).loc main_arg1) (ix2 0 k) := by
  rw [← V_v1 m c]
  unfold iblk
  rw [View.read_apply]
  show V m c main_v1 _ = _
  congr 1
  funext a
  apply Fin.ext
  match a with
  | ⟨0, _⟩ =>
    show win0_1.index t 0 * 1 + 1 * 0 = 0
    rw [(index1 t).1]
  | ⟨1, _⟩ =>
    show win0_1.index t 1 * 2048 + 1 * k.val = k.val
    rw [(index1 t).2]; omega

theorem iblk5 (c : Dev nD) (t : Fin cfg0.N) (k : Fin 2048) :
    iblk m c 5 t (ix2 0 k) = m ((c : Thread nD τ).loc main_arg5) (ix1 k) := by
  rw [← V_v8 m c]
  unfold iblk
  rw [View.read_apply]
  show V m c main_v8 _ = _
  congr 1
  funext a
  apply Fin.ext
  match a with
  | ⟨0, _⟩ =>
    show win0_5.index t 0 * 1 + 1 * 0 = 0
    rw [(index5 t).1]
  | ⟨1, _⟩ =>
    show win0_5.index t 1 * 2048 + 1 * k.val = k.val
    rw [(index5 t).2]; omega

theorem iblk2 (c : Dev nD) (t : Fin cfg0.N) (k : Fin 2048) (f : Fin 512) (h : t.val % 11 * 512 + f.val < 5632) :
    iblk m c 2 t (ix2 k f) = m ((c : Thread nD τ).loc main_arg2) (ix3 0 k ⟨t.val % 11 * 512 + f.val, h⟩) := by
  rw [← V_v3 m c]
  unfold iblk
  rw [View.read_apply]
  show V m c main_v3 _ = _
  congr 1
  funext a
  apply Fin.ext
  match a with
  | ⟨0, _⟩ =>
    show win0_2.index t 0 * 2048 + 1 * k.val = k.val
    rw [(index2 t).1]; omega
  | ⟨1, _⟩ =>
    show win0_2.index t 1 * 512 + 1 * f.val = t.val % 11 * 512 + f.val
    rw [(index2 t).2]; omega

theorem iblk3 (c : Dev nD) (t : Fin cfg0.N) (k : Fin 2048) (f : Fin 512) (h : t.val % 11 * 512 + f.val < 5632) :
    iblk m c 3 t (ix2 k f) = m ((c : Thread nD τ).loc main_arg3) (ix3 0 k ⟨t.val % 11 * 512 + f.val, h⟩) := by
  rw [← V_v5 m c]
  unfold iblk
  rw [View.read_apply]
  show V m c main_v5 _ = _
  congr 1
  funext a
  apply Fin.ext
  match a with
  | ⟨0, _⟩ =>
    show win0_3.index t 0 * 2048 + 1 * k.val = k.val
    rw [(index3 t).1]; omega
  | ⟨1, _⟩ =>
    show win0_3.index t 1 * 512 + 1 * f.val = t.val % 11 * 512 + f.val
    rw [(index3 t).2]; omega

theorem iblk4 (c : Dev nD) (t : Fin cfg0.N) (f : Fin 512) (l : Fin 2048) (h : t.val % 11 * 512 + f.val < 5632) :
    iblk m c 4 t (ix2 f l) = m ((c : Thread nD τ).loc main_arg4) (ix3 0 ⟨t.val % 11 * 512 + f.val, h⟩ l) := by
  rw [← V_v7 m c]
  unfold iblk
  rw [View.read_apply]
  show V m c main_v7 _ = _
  congr 1
  funext a
  apply Fin.ext
  match a with
  | ⟨0, _⟩ =>
    show win0_4.index t 0 * 512 + 1 * f.val = t.val % 11 * 512 + f.val
    rw [(index4 t).1]; omega
  | ⟨1, _⟩ =>
    show win0_4.index t 1 * 2048 + 1 * l.val = l.val
    rw [(index4 t).2]; omega

end Cert.FfnBlocks

end
-- ==== Proof.FfnValue.lean ====
module

public import proofs.«01_k».proof.Proof.FfnKernel
public import proofs.«01_k».proof.Proof.FfnBlocks

@[expose] public section

set_option maxRecDepth 16384

noncomputable section

namespace Cert.FfnValue

open Cert.FfnIdeal Cert.FfnIdeal.Gen Cert.Rows Idealize.ShloMosaic Idealize.ShloMosaic.TcCoe

variable (m : (ℓ : Loc nD τ sig) → Buf (Elt Ideal) ℓ) (c : Dev nD)

/-- Row `r` of the first argument. -/
def xRow (r : Fin 16384) (k : Fin 2048) : EReal := m ((c : Thread nD τ).loc main_arg0) (ix2 r k)

/-- The normed row `r`, from the launch memory. -/
def hRow (r : Fin 16384) (k : Fin 2048) : EReal :=
  rms width (xRow m c r) (fun j => m ((c : Thread nD τ).loc main_arg1) (ix2 0 j)) k

/-- The hidden column `f`'s contribution to element `(r, l)` of the product. -/
def term (r : Fin 16384) (l : Fin 2048) (f : Fin 5632) : EReal :=
  swiglu (vecMat (hRow m c r) (fun (k : Fin 2048) f => m ((c : Thread nD τ).loc main_arg2) (ix3 0 k f)) f)
    (vecMat (hRow m c r) (fun (k : Fin 2048) f => m ((c : Thread nD τ).loc main_arg3) (ix3 0 k f)) f)
    * m ((c : Thread nD τ).loc main_arg4) (ix3 0 f l)

/-- The contribution of column tile `b`, 512 hidden columns; nothing past the last tile. -/
def tile (r : Fin 16384) (l : Fin 2048) (b : ℕ) : EReal :=
  ∑ f : Fin 512, if h : b * 512 + f.val < 5632 then term m c r l ⟨b * 512 + f.val, h⟩ else 0

/-- Row `r` of row tile `t / 11`, as a row of the array. -/
def row (t : Fin cfg0.N) (r : Fin 512) : Fin 16384 :=
  ⟨t.val / 11 * 512 + r.val, by have := lt_of_lt_of_eq t.isLt N_0; have := r.isLt; omega⟩

theorem pay1_blk (t : Fin cfg0.N) (r : Fin 512) (k : Fin 2048) :
    k0_pay1 (F := Ideal) (iblk m c 0 t) (iblk m c 1 t) (ix2 r k) = hRow m c (row t r) k := by
  rw [FfnPay.pay1_apply]
  simp only [FfnBlocks.iblk0 m c t r _ (row t r).isLt, FfnBlocks.iblk1]
  rfl

theorem pay3_blk (t : Fin cfg0.N) (h : Vec Ideal S512x2048 .bf16) (a : Vec Ideal S512x2048 .f32) (r : Fin 512) (l : Fin 2048)
    (hh : ∀ k, h (ix2 r k) = hRow m c (row t r) k) :
    k0_pay3 (F := Ideal) h (iblk m c 2 t) (iblk m c 3 t) a (iblk m c 4 t) (ix2 r l)
      = a (ix2 r l) + tile m c (row t r) l (t.val % 11) := by
  rw [FfnPay.pay3_apply]
  simp only [hh]
  refine congrArg (_ + ·) (Finset.sum_congr rfl fun f _ => ?_)
  have hf : t.val % 11 * 512 + f.val < 5632 := by have := f.isLt; have := Nat.mod_lt t.val (show 0 < 11 by decide); omega
  rw [dif_pos hf]
  simp only [vecMat, FfnBlocks.iblk2 m c t _ f hf, FfnBlocks.iblk3 m c t _ f hf, FfnBlocks.iblk4 m c t f l hf]
  rfl

theorem row_eq (s t : Fin cfg0.N) (h : s.val / 11 = t.val / 11) (r : Fin 512) : row s r = row t r :=
  Fin.ext (by simp only [row, h])

/-- What the two scratch buffers hold after point `n`: the row tile's normed rows, and the rows plus the tiles done so far. -/
theorem inv (n : ℕ) : ∀ hn : n < cfg0.N, (∀ (r : Fin 512) (k : Fin 2048), (outsAt0 m c n hn).2.1 (ix2 r k) = hRow m c (row ⟨n, hn⟩ r) k)
    ∧ ∀ (r : Fin 512) (l : Fin 2048), (outsAt0 m c n hn).2.2 (ix2 r l)
      = xRow m c (row ⟨n, hn⟩ r) l + ∑ b ∈ Finset.range (n % 11 + 1), tile m c (row ⟨n, hn⟩ r) l b := by
  induction n using Nat.strong_induction_on with
  | _ n ih =>
  intro hn
  have hN := lt_of_lt_of_eq hn N_0
  by_cases h0 : n % 11 = 0
  · have h10 : ¬n % 11 = 10 := by omega
    rw [outsAt0_A m c ⟨n, hn⟩ h0 h10]
    dsimp only
    rw [FfnKernel.sout_A_0, FfnKernel.sout_A_1]
    refine ⟨fun r k => pay1_blk m c _ r k, fun r l => ?_⟩
    rw [pay3_blk m c ⟨n, hn⟩ _ _ r l (fun k => pay1_blk m c _ r k), FfnBlocks.iblk0 m c ⟨n, hn⟩ r l (row ⟨n, hn⟩ r).isLt]
    simp only [h0, Finset.sum_range_one, Nat.zero_add]
    rfl
  · obtain ⟨ihh, iha⟩ := ih (n - 1) (by omega) (lt_of_le_of_lt (Nat.sub_le _ _) hn)
    have hr : ∀ r, row ⟨n - 1, lt_of_le_of_lt (Nat.sub_le _ _) hn⟩ r = row ⟨n, hn⟩ r := fun r => row_eq _ _ (by show (n - 1) / 11 = n / 11; omega) r
    have hs : ∀ r l, xRow m c (row ⟨n, hn⟩ r) l + ∑ b ∈ Finset.range ((n - 1) % 11 + 1), tile m c (row ⟨n, hn⟩ r) l b
        + tile m c (row ⟨n, hn⟩ r) l (n % 11)
        = xRow m c (row ⟨n, hn⟩ r) l + ∑ b ∈ Finset.range (n % 11 + 1), tile m c (row ⟨n, hn⟩ r) l b := fun r l => by
      rw [show (n - 1) % 11 + 1 = n % 11 by omega, Finset.sum_range_succ, add_assoc]
    by_cases h1 : n % 11 = 10
    · rw [outsAt0_C m c ⟨n, hn⟩ h0 h1]
      dsimp only
      rw [FfnKernel.sout_C_1]
      refine ⟨fun r k => (ihh r k).trans (by rw [hr]), fun r l => ?_⟩
      rw [pay3_blk m c ⟨n, hn⟩ _ _ r l (fun k => (ihh r k).trans (by rw [hr])), iha r l, hr]
      exact hs r l
    · rw [outsAt0_B m c ⟨n, hn⟩ h0 h1]
      dsimp only
      rw [FfnKernel.sout_B_1]
      refine ⟨fun r k => (ihh r k).trans (by rw [hr]), fun r l => ?_⟩
      rw [pay3_blk m c ⟨n, hn⟩ _ _ r l (fun k => (ihh r k).trans (by rw [hr])), iha r l, hr]
      exact hs r l

/-- The tiles together are all the hidden columns. -/
theorem sum_tiles (r : Fin 16384) (l : Fin 2048) : ∑ b ∈ Finset.range 11, tile m c r l b = ∑ f : Fin 5632, term m c r l f := by
  rw [Fin.sum_univ_tiles 11 512 rfl, Finset.sum_range]
  refine Finset.sum_congr rfl fun b _ => Finset.sum_congr rfl fun f _ => ?_
  rw [dif_pos]

/-- One row of the layer before its last norm. -/
def yRow (r : Fin 16384) (l : Fin 2048) : EReal :=
  xRow m c r l + ∑ f : Fin 5632, term m c r l f

/-- At the last column tile the output block is the norm of what the second scratch holds. -/
theorem out_last_eq (t : Fin cfg0.N) (h0 : ¬t.val % 11 = 0) (h1 : t.val % 11 = 10) :
    (outsAt0 m c t.val t.isLt).1 = k0_pay4 (F := Ideal) (outsAt0 m c t.val t.isLt).2.2 (iblk m c 5 t) := by
  rw [outsAt0_C m c t h0 h1]
  dsimp only
  rw [FfnKernel.sout_C_1, FfnKernel.out_C_6]

/-- The output block at the last column tile. -/
theorem out_last (t : Fin cfg0.N) (h1 : t.val % 11 = 10) (r : Fin 512) (k : Fin 2048) :
    (outsAt0 m c t.val t.isLt).1 (ix2 r k)
      = rms width (yRow m c (row t r)) (fun j => m ((c : Thread nD τ).loc main_arg5) (ix1 j)) k := by
  rw [out_last_eq m c t (by omega) h1, FfnPay.pay4_apply]
  have hv : ∀ l, (outsAt0 m c t.val t.isLt).2.2 (ix2 r l) = yRow m c (row t r) l := fun l =>
    ((inv m c t.val t.isLt).2 r l).trans (by rw [h1, sum_tiles]; rfl)
  simp only [hv, FfnBlocks.iblk5]

/-- The result array, element by element. -/
theorem G6_apply (r : Fin 16384) (k : Fin 2048) :
    Cert.FfnIdeal.Value.G6 m c (ix2 r k) = rms width (yRow m c r) (fun j => m ((c : Thread nD τ).loc main_arg5) (ix1 j)) k := by
  have hp : Cert.FfnIdeal.Value.pt6Of (ix2 r k) = 11 * (r.val / 512) + 10 := by
    show 11 * (1 * (r.val / 512 - 0) + 1 * (k.val / 2048 - 0)) + 10 = _
    have := k.isLt; omega
  have hr := r.isLt
  have hlt : Cert.FfnIdeal.Value.pt6Of (ix2 r k) < cfg0.N := by rw [hp, show cfg0.N = 352 from N_0]; omega
  unfold Cert.FfnIdeal.Value.G6
  rw [dif_pos hlt, ← Cert.FfnIdeal.Value.outsAt0_sweep m c _ hlt]
  have hl : Cert.FfnIdeal.Value.loc6Of (ix2 r k) = ix2 ⟨r.val % 512, Nat.mod_lt _ (by decide)⟩ k := funext fun a => Fin.ext (by
    match a with
    | ⟨0, _⟩ => rfl
    | ⟨1, _⟩ => exact Nat.mod_eq_of_lt k.isLt)
  rw [hl, out_last m c ⟨_, hlt⟩ (by show Cert.FfnIdeal.Value.pt6Of (ix2 r k) % 11 = 10; omega)]
  have e : row ⟨_, hlt⟩ ⟨r.val % 512, Nat.mod_lt _ (by decide)⟩ = r := Fin.ext (by
    show Cert.FfnIdeal.Value.pt6Of (ix2 r k) / 11 * 512 + r.val % 512 = r.val
    omega)
  rw [e]

end Cert.FfnValue

end
-- ==== Proof.FfnRefValue.lean ====
module

public import proofs.«01_k».proof.Proof.Rows
public import proofs.«01_k».proof.Proof.Gen.FfnRefIdeal.Read

@[expose] public section

set_option maxRecDepth 16384

noncomputable section

namespace Cert.FfnRefValue

open Cert.FfnRefIdeal Cert.FfnRefIdeal.Gen Cert.FfnRefIdeal.Read Cert.Rows Idealize.ShloMosaic

variable (x0 : (⟨S16384x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

/-- The reference's normed rows. -/
theorem v13_apply (r : Fin 16384) (k : Fin 2048) :
    val_main_v13 x0 x1 (ix2 r k) = rms width (fun j => x0 (ix2 r j)) (fun j => x1 (ix2 0 j)) k := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- One row of the layer's result before the last norm: the row plus its gated product brought back down. -/
theorem v22_apply (r : Fin 16384) (l : Fin 2048) :
    val_main_v22 x0 x1 x2 x3 x4 (ix2 r l) = x0 (ix2 r l) + ∑ f : Fin 5632,
      swiglu (vecMat (fun k => val_main_v13 x0 x1 (ix2 r k)) (fun (k : Fin 2048) f => x2 (ix3 0 k f)) f)
        (vecMat (fun k => val_main_v13 x0 x1 (ix2 r k)) (fun (k : Fin 2048) f => x3 (ix3 0 k f)) f) * x4 (ix3 0 f l) := by
  unfold val_main_v22 val_main_v21 val_main_v19 val_main_v18 val_main_v16 val_main_call0_v5 val_main_call0_v3
    val_main_call0_v1 val_main_call0_v0 val_main_v15
  generalize val_main_v13 x0 x1 = h
  pointwise [val_main_call0_v4, val_main_call0_cst_0, val_main_call0_v2, val_main_call0_cst, val_main_v20, val_main_v17, val_main_v14]
  rfl

/-- The reference's result: the norm of each row. -/
theorem v35_apply (r : Fin 16384) (k : Fin 2048) :
    val_main_v35 x0 x1 x2 x3 x4 x5 (ix2 r k)
      = rms width (fun j => val_main_v22 x0 x1 x2 x3 x4 (ix2 r j)) (fun j => x5 (ix1 j)) k := by
  unfold val_main_v35 val_main_v32 val_main_v31 val_main_v30 val_main_v29 val_main_v27 val_main_v25 val_main_v24 val_main_v23
  generalize val_main_v22 x0 x1 x2 x3 x4 = y
  pointwise [val_main_v34, val_main_v33, val_main_v28, val_main_cst_4, val_main_v26, val_main_cst_3, val_main_cst_2]
  rfl

end Cert.FfnRefValue

end
-- ==== Proof.FfnClaim.lean ====
module

public import proofs.«01_k».proof.Defs
public import proofs.«01_k».proof.Proof.FfnValue
public import proofs.«01_k».proof.Proof.FfnRefValue
public import proofs.«01_k».proof.Proof.Gen.Ffn.Frame
public import proofs.«01_k».proof.Proof.Gen.FfnRefIdeal.Run

@[expose] public section

noncomputable section

/-! The claims about the gated feed-forward call. -/

namespace Cert.FfnClaim

open Cert.Rows Idealize.ShloMosaic Idealize.SL.Sem

theorem frame : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem preserves : Cert.preserves_Ffn_FfnIdeal := trivial

/-- The reference's result and the kernel's are one array when the arguments are. -/
theorem algebraic : Cert.algebraic_FfnIdeal_FfnRefIdeal := by
  intro m ρ m' ρ' _ hagree
  refine ⟨fun c => Cert.FfnIdeal.Value.G6 m c, Cert.FfnIdeal.Value.run m ρ, ?_⟩
  refine (θ_run Cert.FfnRefIdeal.defs _ _).mono (fun _ h c => ?_) (Cert.FfnRefIdeal.Value.run (F := Ideal) m' ρ')
  refine ⟨(h c).1.trans ?_, (h c).2⟩
  obtain ⟨h0, h1, h2, h3, h4, h5⟩ := hagree c
  rw [Cert.FfnRefIdeal.Read.val_main_v35_eq m' c, h0, h1, h2, h3, h4, h5]
  funext j
  idx_vars j
  rw [Cert.FfnRefValue.v35_apply, Cert.FfnValue.G6_apply]
  refine congrArg (fun y => rms width y _ _) (funext fun l => ?_)
  rw [Cert.FfnRefValue.v22_apply]
  simp only [Cert.FfnRefValue.v13_apply]
  rfl

end Cert.FfnClaim

end
-- ==== Proof.KvValue.lean ====
module

public import proofs.«01_k».proof.Proof.Rows
public import proofs.«01_k».proof.Proof.Gen.KvIdeal.Value

@[expose] public section

set_option maxRecDepth 16384

noncomputable section

/-! What the projection of keys and values leaves in its two results, element by element. -/

namespace Cert.KvValue

open Cert.KvIdeal Cert.KvIdeal.Gen Idealize.ShloMosaic Idealize.ShloMosaic.TcCoe Idealize.ShloMosaic.Tactic
open Idealize.ShloMosaic.StableHlo Cert.Rows

theorem hz : (![0, 0] : Fin 2 → Nat) = fun _ => 0 := funext fun a => by fin_cases a <;> rfl

/-- A tile of the keys: the norms of the rows times a tile of the weights. -/
theorem pay2_apply (x : Vec Ideal S1024x2048 .f32) (g : Vec Ideal S1x2048 .f32) (w : Vec Ideal S2048x512 .bf16) (r : Fin 1024) (l : Fin 512) :
    k0_pay2 (F := Ideal) x g w (ix2 r l)
      = vecMat (rms width (fun j => x (ix2 r j)) (fun j => g (ix2 0 j))) (fun (k : Fin 2048) f => w (ix2 k f)) l := by
  pointwise [k0_pay2, k0_pay1]
  rfl

/-- A tile of the values. -/
theorem pay3_apply (x : Vec Ideal S1024x2048 .f32) (g : Vec Ideal S1x2048 .f32) (w : Vec Ideal S2048x512 .bf16) (r : Fin 1024) (l : Fin 512) :
    k0_pay3 (F := Ideal) x g w (ix2 r l)
      = vecMat (rms width (fun j => x (ix2 r j)) (fun j => g (ix2 0 j))) (fun (k : Fin 2048) f => w (ix2 k f)) l := by
  pointwise [k0_pay3, k0_pay1]
  rfl

theorem out4 (x0 : Vec Ideal S1024x2048 .f32) (x1 : Vec Ideal S1x2048 .f32) (x2 x3 : Vec Ideal S2048x512 .bf16) :
    out0_4 (F := Ideal) x0 x1 x2 x3 = k0_pay2 x0 x1 x2 := by
  unfold out0_4
  rw [View.canon_unit_zero hz, View.ld_unit_zero (S := S1024x2048) hz, View.ld_unit_zero (S := S1x2048) hz, View.ld_unit_zero (S := S2048x512) hz]

theorem out5 (x0 : Vec Ideal S1024x2048 .f32) (x1 : Vec Ideal S1x2048 .f32) (x2 x3 : Vec Ideal S2048x512 .bf16) :
    out0_5 (F := Ideal) x0 x1 x2 x3 = k0_pay3 x0 x1 x3 := by
  unfold out0_5
  rw [View.canon_unit_zero hz, View.ld_unit_zero (S := S1024x2048) hz, View.ld_unit_zero (S := S1x2048) hz, View.ld_unit_zero (S := S2048x512) hz]

variable (m : (ℓ : Loc nD τ sig) → Buf (Elt Ideal) ℓ)

theorem V_v0 (c : Dev nD) (r : Fin 1024) (k : Fin 2048) :
    V m c main_v0 (ix2 r k) = m ((c : Thread nD τ).loc main_arg0) (ix3 ⟨r.val / 256, by omega⟩ ⟨r.val % 256, by omega⟩ k) := by
  unfold V hostOps0
  after_results
  pointwise

theorem V_v2 (c : Dev nD) (k : Fin 2048) : V m c main_v2 (ix2 0 k) = m ((c : Thread nD τ).loc main_arg1) (ix2 0 k) := by
  unfold V hostOps0
  after_results
  pointwise

theorem V_v4 (c : Dev nD) (k f : Fin 2048) :
    V m c main_v4 (ix2 k f) = m ((c : Thread nD τ).loc main_arg2) (ix3 0 k f) := by
  unfold V hostOps0
  after_results
  pointwise

theorem V_v6 (c : Dev nD) (k f : Fin 2048) :
    V m c main_v6 (ix2 k f) = m ((c : Thread nD τ).loc main_arg3) (ix3 0 k f) := by
  unfold V hostOps0
  after_results
  pointwise

/-- The blocks of a grid point. -/
theorem index0 : ∀ t : Fin cfg0.N, win0_0.index t 0 = 0 ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = t.val := (by decide +kernel : ∀ t : Fin grid0.N, _)
theorem index3 : ∀ t : Fin cfg0.N, win0_3.index t 0 = 0 ∧ win0_3.index t 1 = t.val := (by decide +kernel : ∀ t : Fin grid0.N, _)
theorem index4 : ∀ t : Fin cfg0.N, win0_4.index t 0 = 0 ∧ win0_4.index t 1 = t.val := (by decide +kernel : ∀ t : Fin grid0.N, _)
theorem index5 : ∀ t : Fin cfg0.N, win0_5.index t 0 = 0 ∧ win0_5.index t 1 = t.val := (by decide +kernel : ∀ t : Fin grid0.N, _)
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

theorem iblk0 (c : Dev nD) (t : Fin cfg0.N) (r : Fin 1024) (k : Fin 2048) :
    iblk m c 0 t (ix2 r k) = m ((c : Thread nD τ).loc main_arg0) (ix3 ⟨r.val / 256, by omega⟩ ⟨r.val % 256, by omega⟩ k) := by
  rw [← V_v0 m c]
  unfold iblk
  rw [View.read_apply]
  show V m c main_v0 _ = _
  congr 1
  funext a
  apply Fin.ext
  match a with
  | ⟨0, _⟩ =>
    show win0_0.index t 0 * 1024 + 1 * r.val = r.val
    rw [(index0 t).1]; omega
  | ⟨1, _⟩ =>
    show win0_0.index t 1 * 2048 + 1 * k.val = k.val
    rw [(index0 t).2]; omega

theorem iblk1 (c : Dev nD) (t : Fin cfg0.N) (k : Fin 2048) :
    iblk m c 1 t (ix2 0 k) = m ((c : Thread nD τ).loc main_arg1) (ix2 0 k) := by
  rw [← V_v2 m c]
  unfold iblk
  rw [View.read_apply]
  show V m c main_v2 _ = _
  congr 1
  funext a
  apply Fin.ext
  match a with
  | ⟨0, _⟩ =>
    show win0_1.index t 0 * 1 + 1 * 0 = 0
    rw [(index1 t).1]
  | ⟨1, _⟩ =>
    show win0_1.index t 1 * 2048 + 1 * k.val = k.val
    rw [(index1 t).2]; omega

theorem iblk2 (c : Dev nD) (t : Fin cfg0.N) (k : Fin 2048) (f : Fin 512) (h : t.val * 512 + f.val < 2048) :
    iblk m c 2 t (ix2 k f) = m ((c : Thread nD τ).loc main_arg2) (ix3 0 k ⟨t.val * 512 + f.val, h⟩) := by
  rw [← V_v4 m c]
  unfold iblk
  rw [View.read_apply]
  show V m c main_v4 _ = _
  congr 1
  funext a
  apply Fin.ext
  match a with
  | ⟨0, _⟩ =>
    show win0_2.index t 0 * 2048 + 1 * k.val = k.val
    rw [(index2 t).1]; omega
  | ⟨1, _⟩ =>
    show win0_2.index t 1 * 512 + 1 * f.val = t.val * 512 + f.val
    rw [(index2 t).2]; omega

theorem iblk3 (c : Dev nD) (t : Fin cfg0.N) (k : Fin 2048) (f : Fin 512) (h : t.val * 512 + f.val < 2048) :
    iblk m c 3 t (ix2 k f) = m ((c : Thread nD τ).loc main_arg3) (ix3 0 k ⟨t.val * 512 + f.val, h⟩) := by
  rw [← V_v6 m c]
  unfold iblk
  rw [View.read_apply]
  show V m c main_v6 _ = _
  congr 1
  funext a
  apply Fin.ext
  match a with
  | ⟨0, _⟩ =>
    show win0_3.index t 0 * 2048 + 1 * k.val = k.val
    rw [(index3 t).1]; omega
  | ⟨1, _⟩ =>
    show win0_3.index t 1 * 512 + 1 * f.val = t.val * 512 + f.val
    rw [(index3 t).2]; omega

theorem out_emb4 (t : Fin cfg0.N) (r : Fin 1024) (l : Fin 512) (h : t.val * 512 + l.val < 2048) :
    (((cfg0.win 4).blk t).view.emb (ix2 r l) : S1024x2048.Idx) = ix2 r ⟨t.val * 512 + l.val, h⟩ := by
  funext a
  apply Fin.ext
  match a with
  | ⟨0, _⟩ =>
    show win0_4.index t 0 * 1024 + 1 * r.val = r.val
    rw [(index4 t).1]; omega
  | ⟨1, _⟩ =>
    show win0_4.index t 1 * 512 + 1 * l.val = t.val * 512 + l.val
    rw [(index4 t).2]; omega

theorem out_emb5 (t : Fin cfg0.N) (r : Fin 1024) (l : Fin 512) (h : t.val * 512 + l.val < 2048) :
    (((cfg0.win 5).blk t).view.emb (ix2 r l) : S1024x2048.Idx) = ix2 r ⟨t.val * 512 + l.val, h⟩ := by
  funext a
  apply Fin.ext
  match a with
  | ⟨0, _⟩ =>
    show win0_5.index t 0 * 1024 + 1 * r.val = r.val
    rw [(index5 t).1]; omega
  | ⟨1, _⟩ =>
    show win0_5.index t 1 * 512 + 1 * l.val = t.val * 512 + l.val
    rw [(index5 t).2]; omega

/-- Row `r` of the normalized memory. -/
def memRow (c : Dev nD) (r : Fin 1024) : Fin 2048 → EReal :=
  rms width (fun j => m ((c : Thread nD τ).loc main_arg0) (ix3 ⟨r.val / 256, by omega⟩ ⟨r.val % 256, by omega⟩ j))
    (fun j => m ((c : Thread nD τ).loc main_arg1) (ix2 0 j))

/-- The keys: each row of the normalized memory times the key weights. -/
theorem key_apply (c : Dev nD) (r : Fin 1024) (l : Fin 2048) :
    ((dats m 0 c).arrAt 4 cfg0.N : Vec Ideal S1024x2048 .bf16) (ix2 r l)
      = vecMat (memRow m c r) (fun (k : Fin 2048) f => m ((c : Thread nD τ).loc main_arg2) (ix3 0 k f)) l := by
  have ht : l.val / 512 < cfg0.N := by show l.val / 512 < 4; omega
  have hl : (⟨l.val / 512, ht⟩ : Fin cfg0.N).val * 512 + (⟨l.val % 512, by omega⟩ : Fin 512).val < 2048 := by
    show l.val / 512 * 512 + l.val % 512 < 2048; omega
  have hL : (⟨_, hl⟩ : Fin 2048) = l := Fin.ext (by show l.val / 512 * 512 + l.val % 512 = l.val; omega)
  have hb := Cert.KvIdeal.Value.blocks4 m c ⟨l.val / 512, ht⟩ (flush4 _)
  rw [Cert.KvIdeal.Value.flushed4, out4] at hb
  have he := congrFun hb (ix2 r ⟨l.val % 512, by omega⟩)
  rw [View.read_apply] at he
  have e := out_emb4 ⟨l.val / 512, ht⟩ r ⟨l.val % 512, by omega⟩ hl
  rw [hL] at e
  rw [← e]
  refine he.trans ((pay2_apply _ _ _ r ⟨l.val % 512, by omega⟩).trans ?_)
  unfold vecMat memRow
  simp only [iblk0, iblk1, iblk2 m c _ _ _ hl, hL]

/-- The values: each row of the normalized memory times the value weights. -/
theorem value_apply (c : Dev nD) (r : Fin 1024) (l : Fin 2048) :
    ((dats m 0 c).arrAt 5 cfg0.N : Vec Ideal S1024x2048 .bf16) (ix2 r l)
      = vecMat (memRow m c r) (fun (k : Fin 2048) f => m ((c : Thread nD τ).loc main_arg3) (ix3 0 k f)) l := by
  have ht : l.val / 512 < cfg0.N := by show l.val / 512 < 4; omega
  have hl : (⟨l.val / 512, ht⟩ : Fin cfg0.N).val * 512 + (⟨l.val % 512, by omega⟩ : Fin 512).val < 2048 := by
    show l.val / 512 * 512 + l.val % 512 < 2048; omega
  have hL : (⟨_, hl⟩ : Fin 2048) = l := Fin.ext (by show l.val / 512 * 512 + l.val % 512 = l.val; omega)
  have hb := Cert.KvIdeal.Value.blocks5 m c ⟨l.val / 512, ht⟩ (flush5 _)
  rw [Cert.KvIdeal.Value.flushed5, out5] at hb
  have he := congrFun hb (ix2 r ⟨l.val % 512, by omega⟩)
  rw [View.read_apply] at he
  have e := out_emb5 ⟨l.val / 512, ht⟩ r ⟨l.val % 512, by omega⟩ hl
  rw [hL] at e
  rw [← e]
  refine he.trans ((pay3_apply _ _ _ r ⟨l.val % 512, by omega⟩).trans ?_)
  unfold vecMat memRow
  simp only [iblk0, iblk1, iblk3 m c _ _ _ hl, hL]

end Cert.KvValue

end
-- ==== Proof.KvClaim.lean ====
module

public import proofs.«01_k».proof.Defs
public import proofs.«01_k».proof.Proof.KvValue
public import proofs.«01_k».proof.Proof.Gen.Kv.Frame
public import proofs.«01_k».proof.Proof.Gen.KvRefIdeal.Run
public import proofs.«01_k».proof.Proof.Gen.KvRefIdeal.Read

@[expose] public section

noncomputable section

/-! The claims about the projection of keys and values. -/

namespace Cert.KvClaim

open Cert.Rows Idealize.ShloMosaic Idealize.ShloMosaic.TcCoe Idealize.SL.Sem

section Ref

open Cert.KvRefIdeal Cert.KvRefIdeal.Read Idealize.ShloMosaic.StableHlo Idealize.ShloMosaic.Tactic

variable (x0 : Vec Ideal S4x256x2048 .f32) (x1 : Vec Ideal S1x2048 .f32) (x2 : Vec Ideal S1x2048x2048 .f32)

/-- The reference's keys. -/
theorem ref_key (r : Fin 1024) (l : Fin 2048) :
    val_main_v17 (F := Ideal) x0 x1 x2 (ix2 r l)
      = vecMat (rms width (fun j => x0 (ix3 ⟨r.val / 256, by omega⟩ ⟨r.val % 256, by omega⟩ j)) (fun j => x1 (ix2 0 j))) (fun (k : Fin 2048) f => x2 (ix3 0 k f)) l := by
  pointwise [val_main_v17, val_main_v16, val_main_v15, val_main_v14, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- The reference's values. -/
theorem ref_value (r : Fin 1024) (l : Fin 2048) :
    val_main_v21 (F := Ideal) x0 x1 x2 (ix2 r l)
      = vecMat (rms width (fun j => x0 (ix3 ⟨r.val / 256, by omega⟩ ⟨r.val % 256, by omega⟩ j)) (fun j => x1 (ix2 0 j))) (fun (k : Fin 2048) f => x2 (ix3 0 k f)) l := by
  pointwise [val_main_v21, val_main_v20, val_main_v19, val_main_v18, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

end Ref

theorem frame : Cert.quiescent_Kv := fun m ρ _ => Cert.Kv.Gen.frame m ρ

theorem frame_ideal : Cert.quiescent_KvIdeal := fun m ρ _ => Cert.KvIdeal.Gen.frame m ρ

theorem frame_ref : Cert.quiescent_KvRefIdeal := fun m ρ _ =>
  (θ_run Cert.KvRefIdeal.defs _ _).mono (fun r h => ⟨fun c => (h c).2.2,
      Idealize.ShloMosaic.sem_eq_zero_of_no_sems (by decide) r.2⟩)
    (Cert.KvRefIdeal.Value.run (F := Ideal) m ρ)

theorem preserves : Cert.preserves_Kv_KvIdeal := trivial

/-- The reference's keys and values and the kernel's are the same arrays when the arguments are. -/
theorem algebraic : Cert.algebraic_KvIdeal_KvRefIdeal := by
  intro m ρ m' ρ' _ hagree
  refine ⟨fun c => (Cert.KvIdeal.Gen.dats m 0 c).arrAt 4 Cert.KvIdeal.cfg0.N, fun c => (Cert.KvIdeal.Gen.dats m 0 c).arrAt 5 Cert.KvIdeal.cfg0.N,
    Cert.KvIdeal.Value.run_blocks m ρ, ?_⟩
  refine (θ_run Cert.KvRefIdeal.defs _ _).mono (fun _ h c => ?_) (Cert.KvRefIdeal.Value.run (F := Ideal) m' ρ')
  obtain ⟨h0, h1, h2, h3⟩ := hagree c
  refine ⟨((h c).1.trans (Cert.KvRefIdeal.Read.val_main_v17_eq _ _ _)).trans ?_, ((h c).2.1.trans (Cert.KvRefIdeal.Read.val_main_v21_eq _ _ _)).trans ?_, (h c).2.2⟩
  · rw [h0, h1, h2]
    funext j
    obtain ⟨r, l, rfl⟩ : ∃ (r : Fin 1024) (l : Fin 2048), j = ix2 r l := ⟨j 0, j 1, eq_ix2 j⟩
    exact (ref_key _ _ _ r l).trans (Cert.KvValue.key_apply m c r l).symm
  · rw [h0, h1, h3]
    funext j
    obtain ⟨r, l, rfl⟩ : ∃ (r : Fin 1024) (l : Fin 2048), j = ix2 r l := ⟨j 0, j 1, eq_ix2 j⟩
    exact (ref_value _ _ _ r l).trans (Cert.KvValue.value_apply m c r l).symm

end Cert.KvClaim

end
-- ==== Proof.MixRows.lean ====
module

public import proofs.«01_k».proof.Proof.Rows

@[expose] public section

noncomputable section

namespace Cert.MixRows

open Cert.Rows Idealize.ShloMosaic

/-- The number one, as the programs write it. -/
abbrev one : EReal := Ideal.ofBits .f32 0x3F800000#32
/-- The number of elements of half a row, as the programs write it. -/
abbrev halfWidth : EReal := Ideal.ofBits .f32 0x44800000#32

/-- The window of group `g`: 2, 4, 8, 16 rows. -/
def win (g : Fin 4) : ℕ := 2 ^ (g.val + 1)

theorem win_le (g : Fin 4) : win g ≤ 16 := by fin_cases g <;> decide

/-- The window of group `g`, as the programs write it. -/
def winF : Fin 4 → EReal
  | 0 => Ideal.ofBits .f32 0x40000000#32
  | 1 => Ideal.ofBits .f32 0x40800000#32
  | 2 => Ideal.ofBits .f32 0x41000000#32
  | 3 => Ideal.ofBits .f32 0x41800000#32

/-- The sum of the `win g` rows ending at row `r`, of a column with sixteen rows put in front. -/
def tail (g : Fin 4) (E : Fin 272 → EReal) (r : Fin 256) : EReal :=
  ∑ i : Fin (win g), E ⟨16 + r.val - i.val, by omega⟩

/-- A column moved down by `d` rows, around the end. -/
def rot (d : ℕ) (E : Fin 272 → EReal) (e : Fin 272) : EReal := E ⟨(e.val + 272 - d) % 272, Nat.mod_lt _ (by decide)⟩

/-- A column plus itself moved down. -/
def dbl (d : ℕ) (E : Fin 272 → EReal) (e : Fin 272) : EReal := E e + rot d E e

theorem rot_at (d : ℕ) (E : Fin 272 → EReal) (n : ℕ) (hn : n < 272) (hd : d ≤ n) : rot d E ⟨n, hn⟩ = E ⟨n - d, by omega⟩ :=
  congrArg E (Fin.ext (by show (n + 272 - d) % 272 = n - d; omega))

theorem dbl_at (d : ℕ) (E : Fin 272 → EReal) (n : ℕ) (hn : n < 272) (hd : d ≤ n) : dbl d E ⟨n, hn⟩ = E ⟨n, hn⟩ + E ⟨n - d, by omega⟩ :=
  congrArg (E ⟨n, hn⟩ + ·) (rot_at d E n hn hd)

/-- The rows above the sixteen in front. -/
def base (r : Fin 256) : Fin 272 := ⟨16 + r.val, by omega⟩

theorem tail_zero (E : Fin 272 → EReal) (r : Fin 256) : dbl 1 E (base r) = tail 0 E r := by
  unfold base
  rw [dbl_at _ _ _ _ (by omega)]
  exact (Fin.sum_univ_two (fun i : Fin 2 => E ⟨16 + r.val - i.val, by omega⟩)).symm

theorem tail_one (E : Fin 272 → EReal) (r : Fin 256) : dbl 2 (dbl 1 E) (base r) = tail 1 E r := by
  unfold base
  rw [dbl_at _ _ _ _ (by omega)]
  repeat rw [dbl_at 1 _ _ _ (by omega)]
  refine Eq.trans ?_ (Fin.sum_univ_four (fun i : Fin 4 => E ⟨16 + r.val - i.val, by omega⟩)).symm
  exact (add_assoc _ _ _).symm

theorem tail_two (E : Fin 272 → EReal) (r : Fin 256) : dbl 4 (dbl 2 (dbl 1 E)) (base r) = tail 2 E r := by
  unfold base
  rw [dbl_at _ _ _ _ (by omega)]
  repeat rw [dbl_at 2 _ _ _ (by omega)]
  repeat rw [dbl_at 1 _ _ _ (by omega)]
  refine Eq.trans ?_ (Fin.sum_univ_eight (fun i : Fin 8 => E ⟨16 + r.val - i.val, by omega⟩)).symm
  simp only [← add_assoc]
  rfl

theorem tail_three (E : Fin 272 → EReal) (r : Fin 256) : dbl 8 (dbl 4 (dbl 2 (dbl 1 E))) (base r) = tail 3 E r := by
  unfold base
  rw [dbl_at _ _ _ _ (by omega)]
  repeat rw [dbl_at 4 _ _ _ (by omega)]
  repeat rw [dbl_at 2 _ _ _ (by omega)]
  repeat rw [dbl_at 1 _ _ _ (by omega)]
  refine Eq.trans ?_ (Fin.sum_univ_add (a := 8) (b := 8) (fun i : Fin (8 + 8) => E ⟨16 + r.val - i.val, by omega⟩)).symm
  rw [Fin.sum_univ_eight, Fin.sum_univ_eight]
  simp only [← add_assoc]
  rfl

/-- One column of a pooled group: the mean of the window less the row itself, times the group's matrix, scaled. -/
def pooled (g : Fin 4) (E : Fin 256 → Fin 272 → EReal) (a : Fin 256 → EReal) (pos : EReal) (r : Fin 256) (pw : Fin 256 → EReal) (ps : EReal) : EReal :=
  (∑ c, (tail g (E c) r * Ideal.div one (min pos (winF g)) - a c) * pw c) * ps

/-- One gated element: `u` times what the head's weights mix of the normed column, plus the bias. -/
def gate (u : EReal) (ws v : Fin 128 → EReal) (b : EReal) : EReal := u * ((∑ s, ws s * v s) + b)

end Cert.MixRows

end
-- ==== Proof.MixPay.lean ====
module

public import proofs.«01_k».proof.Proof.MixRows
public import proofs.«01_k».proof.Proof.Gen.MixIdeal.Skeleton

@[expose] public section

set_option maxRecDepth 16384

noncomputable section

namespace Cert.MixPay

open Cert.MixIdeal Cert.MixIdeal.Gen Cert.Rows Cert.MixRows Idealize.ShloMosaic

theorem pay3_apply (x : FVec Ideal S256x2048 .f32) (y : Vec Ideal S256x2048 .bf16) (w : Vec Ideal S2048x2048 .bf16) (r : Fin 256) (l : Fin 2048) :
    k0_pay3 (F := Ideal) x y w (ix2 r l) = x (ix2 r l) + vecMat (fun k => y (ix2 r k)) (fun (k : Fin 2048) f => w (ix2 k f)) l := by
  pointwise [k0_pay3]
  rfl

/-- The normed rows. -/
theorem pay20_apply (x : Vec Ideal S256x2048 .f32) (g : Vec Ideal S1x2048 .f32) (r : Fin 256) (l : Fin 2048) :
    k0_pay20 (F := Ideal) x g (ix2 r l) = rms width (fun j => x (ix2 r j)) (fun j => g (ix2 0 j)) l := by
  pointwise [k0_pay20, k0_pay19]
  rfl

theorem pay21_apply (x : Vec Ideal S256x2048 .f32) (g : Vec Ideal S1x2048 .f32) (w : Vec Ideal S2048x1024 .bf16) (r : Fin 256) (l : Fin 1024) :
    k0_pay21 (F := Ideal) x g w (ix2 r l)
      = vecMat (rms width (fun j => x (ix2 r j)) (fun j => g (ix2 0 j))) (fun (k : Fin 2048) f => w (ix2 k f)) l := by
  pointwise [k0_pay21, k0_pay20, k0_pay19]
  rfl

theorem pay22_apply (x : FVec Ideal S256x2048 .bf16) (w : Vec Ideal S2048x1024 .bf16) (r : Fin 256) (l : Fin 1024) :
    k0_pay22 (F := Ideal) x w (ix2 r l) = vecMat (fun k => x (ix2 r k)) (fun (k : Fin 2048) f => w (ix2 k f)) l := by
  pointwise [k0_pay22]
  rfl

theorem pay23_apply (x : FVec Ideal S256x2048 .bf16) (w : Vec Ideal S2048x1024 .bf16) (r : Fin 256) (l : Fin 1024) :
    k0_pay23 (F := Ideal) x w (ix2 r l) = vecMat (fun k => x (ix2 r k)) (fun (k : Fin 2048) f => w (ix2 k f)) l := by
  pointwise [k0_pay23]
  rfl

/-- A tile's rows with the sixteen rows before them in front. -/
theorem pay24_apply (a : FVec Ideal S256x1024 .f32) (h : Vec Ideal S16x1024 .f32) (e : Fin 272) (l : Fin 1024) :
    k0_pay24 (F := Ideal) a h (ix2 e l)
      = if he : e.val < 16 then h (ix2 ⟨e.val, he⟩ l) else a (ix2 ⟨e.val - 16, by omega⟩ l) := by
  pointwise [k0_pay24]

theorem pay25_apply (a : FVec Ideal S256x1024 .f32) (e : Fin 16) (l : Fin 1024) :
    k0_pay25 (F := Ideal) a (ix2 e l) = a (ix2 ⟨240 + e.val, by omega⟩ l) := by
  pointwise [k0_pay25]

theorem pay26_apply (v9 : BitVec 32) (r : Fin 256) (z : Fin 1) :
    k0_pay26 (F := Ideal) v9 (ix2 r z) = (((v9 * 256#32 + BitVec.ofNat 32 r.val + 1#32).toInt : ℝ) : EReal) := by
  pointwise [k0_pay26]
  rfl

/-- A column of group `g`. -/
def gcol (g : Fin 4) (c : Fin 256) : Fin 1024 := ⟨g.val * 256 + c.val, by omega⟩

/-- Rows plus themselves moved down. -/
def dblV (d : BitVec 32) (x : FVec Ideal S272x256 .f32) : FVec Ideal S272x256 .f32 :=
  addf x (dynamicRotate 0 d none x rotates_S272x256_d0)

theorem dblV_one (x : FVec Ideal S272x256 .f32) (e : Fin 272) (c : Fin 256) : dblV 1#32 x (ix2 e c) = dbl 1 (fun e => x (ix2 e c)) e := by
  pointwise [dblV]
  rfl

theorem dblV_two (x : FVec Ideal S272x256 .f32) (e : Fin 272) (c : Fin 256) : dblV 2#32 x (ix2 e c) = dbl 2 (fun e => x (ix2 e c)) e := by
  pointwise [dblV]
  rfl

theorem dblV_four (x : FVec Ideal S272x256 .f32) (e : Fin 272) (c : Fin 256) : dblV 4#32 x (ix2 e c) = dbl 4 (fun e => x (ix2 e c)) e := by
  pointwise [dblV]
  rfl

theorem dblV_eight (x : FVec Ideal S272x256 .f32) (e : Fin 272) (c : Fin 256) : dblV 8#32 x (ix2 e c) = dbl 8 (fun e => x (ix2 e c)) e := by
  pointwise [dblV]
  rfl

/-- A pooled group from its window sums `S`, its rows `a`, its matrix and its scales. -/
def poolCore (b : BitVec 32) (S : FVec Ideal S272x256 .f32) (a : FVec Ideal S256x256 .f32) (p : FVec Ideal S256x1 .f32)
    (pw : Vec Ideal S1x256x256 .bf16) (ps : Vec Ideal S1x256 .f32) : FVec Ideal S256x256 .bf16 :=
  k0_pay34 (matmul (φ₁ := .bf16) (φ₂ := .bf16) dot_S256x256_S256x256_S256x256_1_0_0_1_n_n none
    (truncf .bf16 (subf (mulf (extractStridedSlice S256x256 ![16, 0] S slices_S272x256_o16_0_S256x256)
      (broadcastTo S256x256 (divf (broadcast S256x1 (Scalar.ofBits (F := Ideal) .f32 0x3F800000#32)) (minimumf p (broadcast S256x1 (Scalar.ofBits (F := Ideal) .f32 b))))
        broadcasts_S256x1_S256x256)) a) bitsLt_bf16_f32)
    (shapeCast S256x256 pw shapeCasts_S1x256x256_S256x256) (constant S256x256 .f32 0x00000000#32)) ps

theorem poolCore_apply (b : BitVec 32) (S : FVec Ideal S272x256 .f32) (a : FVec Ideal S256x256 .f32) (p : FVec Ideal S256x1 .f32)
    (pw : Vec Ideal S1x256x256 .bf16) (ps : Vec Ideal S1x256 .f32) (r l : Fin 256) :
    poolCore b S a p pw ps (ix2 r l)
      = (∑ c, (S (ix2 (base r) c) * Ideal.div one (min (p (ix2 r 0)) (Ideal.ofBits .f32 b)) - a (ix2 r c)) * pw (ix3 0 c l)) * ps (ix2 0 l) := by
  pointwise [poolCore, k0_pay34]
  rfl

theorem sliceA_apply {α : Type} (g : Fin 4) (q : ℕ) (hq : q = g.val * 256) (hs : S256x1024.Slices ![0, q] S256x256) (u : S256x1024.Idx → α) (r c : Fin 256) :
    extractStridedSlice S256x256 ![0, q] u hs (ix2 r c) = u (ix2 r (gcol g c)) :=
  extractStridedSlice_apply _ u hs (ix2 r c) (ix2 r (gcol g c)) fun a => by
    match a with
    | ⟨0, _⟩ => exact (Nat.zero_add _).symm
    | ⟨1, _⟩ => subst hq; rfl

theorem sliceE_apply {α : Type} (g : Fin 4) (q : ℕ) (hq : q = g.val * 256) (hs : S272x1024.Slices ![0, q] S272x256) (u : S272x1024.Idx → α) (e : Fin 272) (c : Fin 256) :
    extractStridedSlice S272x256 ![0, q] u hs (ix2 e c) = u (ix2 e (gcol g c)) :=
  extractStridedSlice_apply _ u hs (ix2 e c) (ix2 e (gcol g c)) fun a => by
    match a with
    | ⟨0, _⟩ => exact (Nat.zero_add _).symm
    | ⟨1, _⟩ => subst hq; rfl

section
variable (a : FVec Ideal S256x1024 .f32) (E : FVec Ideal S272x1024 .f32) (p : FVec Ideal S256x1 .f32) (pw : Vec Ideal S1x256x256 .bf16)
    (ps : Vec Ideal S1x256 .f32) (r l : Fin 256)

theorem pay28_apply (v9 : BitVec 32) (h : Vec Ideal S16x1024 .f32) :
    k0_pay28 (F := Ideal) (k0_pay27 v9 a h pw ps) (ix2 r l)
      = pooled 0 (fun c e => k0_pay24 (F := Ideal) a h (ix2 e (gcol 0 c))) (fun c => a (ix2 r (gcol 0 c))) (k0_pay26 (F := Ideal) v9 (ix2 r 0)) r
          (fun c => pw (ix3 0 c l)) (ps (ix2 0 l)) := by
  have hv : k0_pay28 (F := Ideal) (k0_pay27 v9 a h pw ps) = poolCore 0x40000000#32 (dblV 1#32 (extractStridedSlice S272x256 ![0, 0] (k0_pay24 (F := Ideal) a h) slices_S272x1024_o0_0_S272x256))
    (extractStridedSlice S256x256 ![0, 0] a slices_S256x1024_o0_0_S256x256) (k0_pay26 (F := Ideal) v9) pw ps := by
    unfold k0_pay28 k0_pay27 poolCore dblV k0_pay34
    rfl
  rw [hv, poolCore_apply]
  unfold pooled
  simp only [← tail_zero, dblV_one, sliceA_apply 0 0 rfl, sliceE_apply 0 0 rfl]
  rfl

theorem pay29_apply :
    k0_pay29 (F := Ideal) a E p pw ps (ix2 r l)
      = pooled 1 (fun c e => E (ix2 e (gcol 1 c))) (fun c => a (ix2 r (gcol 1 c))) (p (ix2 r 0)) r (fun c => pw (ix3 0 c l)) (ps (ix2 0 l)) := by
  have hv : k0_pay29 (F := Ideal) a E p pw ps = poolCore 0x40800000#32 (dblV 2#32 (dblV 1#32 (extractStridedSlice S272x256 ![0, 256] E slices_S272x1024_o0_256_S272x256)))
    (extractStridedSlice S256x256 ![0, 256] a slices_S256x1024_o0_256_S256x256) p pw ps := by
    unfold k0_pay29 poolCore dblV k0_pay34
    rfl
  rw [hv, poolCore_apply]
  unfold pooled
  simp only [← tail_one, dblV_one, dblV_two, sliceA_apply 1 256 rfl, sliceE_apply 1 256 rfl]
  rfl

theorem pay32_apply :
    k0_pay32 (F := Ideal) a (k0_pay30 E) (k0_pay31 p) one pw ps (ix2 r l)
      = pooled 2 (fun c e => E (ix2 e (gcol 2 c))) (fun c => a (ix2 r (gcol 2 c))) (p (ix2 r 0)) r (fun c => pw (ix3 0 c l)) (ps (ix2 0 l)) := by
  have hv : k0_pay32 (F := Ideal) a (k0_pay30 E) (k0_pay31 p) one pw ps = poolCore 0x41000000#32 (dblV 4#32 (dblV 2#32 (dblV 1#32 (extractStridedSlice S272x256 ![0, 512] E slices_S272x1024_o0_512_S272x256))))
    (extractStridedSlice S256x256 ![0, 512] a slices_S256x1024_o0_512_S256x256) p pw ps := by
    unfold k0_pay32 k0_pay31 k0_pay30 poolCore dblV k0_pay34
    rfl
  rw [hv, poolCore_apply]
  unfold pooled
  simp only [← tail_two, dblV_one, dblV_two, dblV_four, sliceA_apply 2 512 rfl, sliceE_apply 2 512 rfl]
  rfl

theorem pay34_apply :
    k0_pay34 (F := Ideal) (k0_pay33 a E p pw) ps (ix2 r l)
      = pooled 3 (fun c e => E (ix2 e (gcol 3 c))) (fun c => a (ix2 r (gcol 3 c))) (p (ix2 r 0)) r (fun c => pw (ix3 0 c l)) (ps (ix2 0 l)) := by
  have hv : k0_pay34 (F := Ideal) (k0_pay33 a E p pw) ps = poolCore 0x41800000#32 (dblV 8#32 (dblV 4#32 (dblV 2#32 (dblV 1#32 (extractStridedSlice S272x256 ![0, 768] E slices_S272x1024_o0_768_S272x256)))))
    (extractStridedSlice S256x256 ![0, 768] a slices_S256x1024_o0_768_S256x256) p pw ps := by
    unfold k0_pay33 poolCore dblV
    rfl
  rw [hv, poolCore_apply]
  unfold pooled
  simp only [← tail_three, dblV_one, dblV_two, dblV_four, dblV_eight, sliceA_apply 3 768 rfl, sliceE_apply 3 768 rfl]
  rfl

end

/-- The normed columns the heads mix. -/
theorem pay35_apply (v : FVec Ideal S256x1024 .f32) (g : Vec Ideal S1x1024 .f32) (r : Fin 256) (l : Fin 1024) :
    k0_pay35 (F := Ideal) v g (ix2 r l) = rms halfWidth (fun j => v (ix2 r j)) (fun j => g (ix2 0 j)) l := by
  pointwise [k0_pay35]
  rfl

/-- The gated block of given 128 rows and columns. -/
def gateCore (u : FVec Ideal S128x128 .f32) (v : FVec Ideal S128x128 .bf16) (ws : Vec Ideal S1x128x128 .bf16) (b : Vec Ideal S128x128 .f32) : FVec Ideal S128x128 .bf16 :=
  shapeCast S128x128 (truncf .bf16 (mulf u (addf (matmul (φ₁ := .bf16) dot_S128x128_S128x128_S128x128_1_0_0_1_n_n none (shapeCast S128x128 ws shapeCasts_S1x128x128_S128x128) v
    (constant S128x128 .f32 0x00000000#32)) (shapeCast S128x128 b shapeCasts_S128x128_S128x128))) bitsLt_bf16_f32) shapeCasts_S128x128_S128x128

/-- One gated block: 128 rows from `o`, 128 columns from `q`. -/
def gateBlock (o q : ℕ) (hs : S256x1024.Slices ![o, q] S128x128) (u : FVec Ideal S256x1024 .f32) (v : FVec Ideal S256x1024 .bf16)
    (ws : Vec Ideal S1x128x128 .bf16) (b : Vec Ideal S128x128 .f32) : FVec Ideal S128x128 .bf16 :=
  gateCore (extractStridedSlice S128x128 ![o, q] u hs) (extractStridedSlice S128x128 ![o, q] v hs) ws b

theorem gateCore_apply (u : FVec Ideal S128x128 .f32) (v : FVec Ideal S128x128 .bf16) (ws : Vec Ideal S1x128x128 .bf16) (b : Vec Ideal S128x128 .f32) (t c : Fin 128) :
    gateCore u v ws b (ix2 t c) = gate (u (ix2 t c)) (fun s => ws (ix3 0 t s)) (fun s => v (ix2 s c)) (b (ix2 t c)) := by
  pointwise [gateCore]
  rfl

theorem slice_apply {α : Type} (o q : ℕ) (hs : S256x1024.Slices ![o, q] S128x128) (u : S256x1024.Idx → α) (R : Fin 256) (C : Fin 1024) (t c : Fin 128)
    (hR : R.val = o + t.val) (hC : C.val = q + c.val) : extractStridedSlice S128x128 ![o, q] u hs (ix2 t c) = u (ix2 R C) :=
  extractStridedSlice_apply _ u hs (ix2 t c) (ix2 R C) fun a => by
    match a with
    | ⟨0, _⟩ => exact hR
    | ⟨1, _⟩ => exact hC

/-- Row `t` of half `k`. -/
def hrow (k : Fin 2) (t : Fin 128) : Fin 256 := ⟨k.val * 128 + t.val, by omega⟩
/-- Column `c` of head `h`. -/
def hcol (h : Fin 8) (c : Fin 128) : Fin 1024 := ⟨h.val * 128 + c.val, by omega⟩

theorem gateBlock_apply (k : Fin 2) (h : Fin 8) (o q : ℕ) (ho : o = k.val * 128) (hq : q = h.val * 128) (hs : S256x1024.Slices ![o, q] S128x128)
    (u : FVec Ideal S256x1024 .f32) (v : FVec Ideal S256x1024 .bf16) (ws : Vec Ideal S1x128x128 .bf16) (b : Vec Ideal S128x128 .f32) (t c : Fin 128) :
    gateBlock o q hs u v ws b (ix2 t c)
      = gate (u (ix2 (hrow k t) (hcol h c))) (fun s => ws (ix3 0 t s)) (fun s => v (ix2 (hrow k s) (hcol h c))) (b (ix2 t c)) := by
  refine (gateCore_apply _ _ ws b t c).trans ?_
  rw [slice_apply o q hs u (hrow k t) (hcol h c) t c (by subst ho; rfl) (by subst hq; rfl)]
  refine congrArg (fun f => gate _ _ f _) (funext fun s => ?_)
  exact slice_apply o q hs v (hrow k s) (hcol h c) s c (by subst ho; rfl) (by subst hq; rfl)

/-- The half a column lies in. -/
theorem colHalf (t s : Fin 128) : k0_pay4 (ix2 t s) = BitVec.ofNat 32 (s.val / 64) := by
  have h : ∀ s : Fin 128, k0_pay4 (ix2 0 s) = BitVec.ofNat 32 (s.val / 64) := by decide +kernel
  exact h s

/-- The half a row lies in. -/
theorem rowHalf (t s : Fin 128) : Scalar.select (k0_pay6 (ix2 t s)) (IntOp.subi (k0_pay5 (ix2 t s)) 1#32) (k0_pay5 (ix2 t s)) = BitVec.ofNat 32 (t.val / 64) := by
  have h : ∀ t : Fin 128, Scalar.select (k0_pay6 (ix2 t 0)) (IntOp.subi (k0_pay5 (ix2 t 0)) 1#32) (k0_pay5 (ix2 t 0)) = BitVec.ofNat 32 (t.val / 64) := by
    decide +kernel
  exact h t

/-- Which of a block's columns each row's weights keep. -/
theorem mask_apply (t s : Fin 128) : k0_pay7 k0_pay4 k0_pay5 k0_pay6 (ix2 t s) = if s.val / 64 ≤ t.val / 64 then 1#1 else 0#1 := by
  have h : ∀ p q : Fin 2, IntOp.cmpi .sle (BitVec.ofNat 32 q.val) (BitVec.ofNat 32 p.val) = if q.val ≤ p.val then 1#1 else 0#1 := by decide +kernel
  show IntOp.cmpi .sle (k0_pay4 (ix2 t s)) (Scalar.select (k0_pay6 (ix2 t s)) (IntOp.subi (k0_pay5 (ix2 t s)) 1#32) (k0_pay5 (ix2 t s))) = _
  rw [colHalf, rowHalf]
  exact h ⟨t.val / 64, by omega⟩ ⟨s.val / 64, by omega⟩

/-- A head's weights, zero where the mask is not set. -/
def maskBlock (M : IVec S128x128 1) (w : Vec Ideal S1x128x128 .f32) : FVec Ideal S1x128x128 .bf16 := k0_pay14 (F := Ideal) M w

theorem maskBlock_apply (w : Vec Ideal S1x128x128 .f32) (z : Fin 1) (t s : Fin 128) :
    maskBlock (k0_pay7 k0_pay4 k0_pay5 k0_pay6) w (ix3 z t s) = if s.val / 64 ≤ t.val / 64 then w (ix3 0 t s) else 0 := by
  have hm := mask_apply t s
  generalize k0_pay7 k0_pay4 k0_pay5 k0_pay6 = M at hm ⊢
  pointwise [maskBlock, k0_pay14]
  rw [hm]
  split <;> rfl

end Cert.MixPay

end
-- ==== Proof.MixStores.lean ====
module

public import proofs.«01_k».proof.Proof.MixPay
public import proofs.«01_k».proof.Proof.Gen.MixIdeal.Value
public import Idealize.ShloMosaic.Lib.Pipeline.ReadBack
public import Idealize.ShloMosaic.Lib.Pipeline.ValueKit

@[expose] public section

set_option maxRecDepth 16384

noncomputable section

namespace Cert.MixKernel

open Cert.MixPay Cert.MixRows Cert.MixIdeal Cert.MixIdeal.Gen Idealize.ShloMosaic Idealize.ShloMosaic.TcCoe Idealize.ShloMosaic.Tactic

theorem hz : (![0, 0] : Fin 2 → Nat) = fun _ => 0 := funext fun a => by fin_cases a <;> rfl

/-- A column of pooled group `g` among the mixed columns. -/
def pcol (g : Fin 4) (l : Fin 256) : Fin 2048 := ⟨g.val * 256 + l.val, by omega⟩
/-- A column of head `h` among the mixed columns. -/
def scol (h : Fin 8) (l : Fin 128) : Fin 2048 := ⟨1024 + (h.val * 128 + l.val), by omega⟩

variable (A U V : FVec Ideal S256x1024 .f32) (g : Vec Ideal S1x1024 .f32) (v9 : BitVec 32) (H : Vec Ideal S16x1024 .f32) (WS : Fin 8 → Vec Ideal S1x128x128 .bf16)
  (x3 : Vec Ideal S4x256x256 .bf16) (x4 : Vec Ideal S1x1024 .f32) (x7 : Vec Ideal S128x1024 .f32)

/-- The element of pooled group `k` at row `r`, column `l`. -/
def poolAt (k : Fin 4) (r l : Fin 256) : EReal :=
  pooled k (fun c e => k0_pay24 (F := Ideal) A H (ix2 e (gcol k c))) (fun c => A (ix2 r (gcol k c))) (k0_pay26 (F := Ideal) v9 (ix2 r 0)) r
    (fun c => x3 (ix3 k c l)) (x4 (ix2 0 (gcol k l)))

/-- The element of head `h` at row `t` of half `k`, column `l`. -/
def gateAt (k : Fin 2) (h : Fin 8) (t l : Fin 128) : EReal :=
  gate (U (ix2 (hrow k t) (hcol h l))) (fun s => WS h (ix3 0 t s)) (fun s => k0_pay35 (F := Ideal) V g (ix2 (hrow k s) (hcol h l))) (x7 (ix2 t (hcol h l)))

/-- The mixed columns: four pooled groups, then eight gated heads. -/
def mixed : Vec Ideal S256x2048 .bf16 := fun y =>
  if hl : (y 1).val < 1024 then
    poolAt A v9 H x3 x4 ⟨(y 1).val / 256, by omega⟩ (y 0) ⟨(y 1).val % 256, Nat.mod_lt _ (by decide)⟩
  else
    gateAt U V g WS x7 ⟨(y 0).val / 128, by have h : (y 0).val < 256 := (y 0).isLt; omega⟩
      ⟨((y 1).val - 1024) / 128, by have h : (y 1).val < 2048 := (y 1).isLt; omega⟩ ⟨(y 0).val % 128, Nat.mod_lt _ (by decide)⟩
      ⟨((y 1).val - 1024) % 128, Nat.mod_lt _ (by decide)⟩

theorem mixed_pool (k : Fin 4) (r l : Fin 256) : mixed A U V g v9 H WS x3 x4 x7 (ix2 r (pcol k l)) = poolAt A v9 H x3 x4 k r l := by
  have hv : (pcol k l).val = k.val * 256 + l.val := rfl
  have h : (pcol k l).val < 1024 := by omega
  have hq : (⟨(pcol k l).val / 256, by omega⟩ : Fin 4) = k := Fin.ext (by show (pcol k l).val / 256 = k.val; omega)
  have hm : (⟨(pcol k l).val % 256, Nat.mod_lt _ (by decide)⟩ : Fin 256) = l := Fin.ext (by show (pcol k l).val % 256 = l.val; omega)
  refine (dif_pos h).trans ?_
  show poolAt A v9 H x3 x4 ⟨(pcol k l).val / 256, _⟩ r ⟨(pcol k l).val % 256, _⟩ = _
  rw [hq, hm]

theorem mixed_gate (k : Fin 2) (h : Fin 8) (t l : Fin 128) : mixed A U V g v9 H WS x3 x4 x7 (ix2 (hrow k t) (scol h l)) = gateAt U V g WS x7 k h t l := by
  have hv : (scol h l).val = 1024 + (h.val * 128 + l.val) := rfl
  have hr : (hrow k t).val = k.val * 128 + t.val := rfl
  have hn : ¬ (scol h l).val < 1024 := by omega
  have e1 : (⟨(hrow k t).val / 128, by omega⟩ : Fin 2) = k := Fin.ext (by show (hrow k t).val / 128 = k.val; omega)
  have e2 : (⟨((scol h l).val - 1024) / 128, by omega⟩ : Fin 8) = h := Fin.ext (by show ((scol h l).val - 1024) / 128 = h.val; omega)
  have e3 : (⟨(hrow k t).val % 128, Nat.mod_lt _ (by decide)⟩ : Fin 128) = t := Fin.ext (by show (hrow k t).val % 128 = t.val; omega)
  have e4 : (⟨((scol h l).val - 1024) % 128, Nat.mod_lt _ (by decide)⟩ : Fin 128) = l := Fin.ext (by show ((scol h l).val - 1024) % 128 = l.val; omega)
  refine (dif_neg hn).trans ?_
  show gateAt U V g WS x7 ⟨(hrow k t).val / 128, _⟩ ⟨((scol h l).val - 1024) / 128, _⟩ ⟨(hrow k t).val % 128, _⟩ ⟨((scol h l).val - 1024) % 128, _⟩ = _
  rw [e1, e2, e3, e4]

/-- A store of a pooled group's columns stores its part of the mixed columns. -/
theorem pool_piece (k : Fin 4) (q : ℕ) (hq : q = k.val * 256) (i0 : ∀ a, (![0, q] : Fin 2 → ℕ) a + (![256, 256] : Fin 2 → ℕ) a ≤ S256x2048.size a)
    (i3 : ∀ a, (![k.val, 0, 0] : Fin 3 → ℕ) a + (![1, 256, 256] : Fin 3 → ℕ) a ≤ S4x256x256.size a)
    (i4 : ∀ a, (![0, q] : Fin 2 → ℕ) a + (![1, 256] : Fin 2 → ℕ) a ≤ S1x1024.size a)
    (P : Vec Ideal S256x256 .bf16)
    (hP : ∀ r l, P (ix2 r l) = pooled k (fun c e => k0_pay24 (F := Ideal) A H (ix2 e (gcol k c))) (fun c => A (ix2 r (gcol k c))) (k0_pay26 (F := Ideal) v9 (ix2 r 0)) r
      (fun c => View.ld x3 (Rect.unit ![k.val, 0, 0] ![1, 256, 256] i3) (ix3 0 c l)) (View.ld x4 (Rect.unit ![0, q] ![1, 256] i4) (ix2 0 l)))
    (p : S256x256.Idx) : P p = mixed A U V g v9 H WS x3 x4 x7 ((Rect.unit (s := S256x2048) ![0, q] ![256, 256] i0).emb p) := by
  obtain ⟨r, l, rfl⟩ : ∃ (r l : Fin 256), p = ix2 r l := ⟨p 0, p 1, eq_ix2 p⟩
  have he : (Rect.unit (s := S256x2048) ![0, q] ![256, 256] i0).emb (ix2 r l) = ix2 r (pcol k l) := by
    funext a
    apply Fin.ext
    refine (Rect.idx_unit_val _ _ i0 (ix2 r l) a).trans ?_
    match a with
    | ⟨0, _⟩ => exact Nat.zero_add _
    | ⟨1, _⟩ => subst hq; rfl
  rw [he, mixed_pool, hP]
  have e3 : ∀ c, View.ld x3 (Rect.unit ![k.val, 0, 0] ![1, 256, 256] i3) (ix3 0 c l) = x3 (ix3 k c l) := fun c =>
    View.ld_unit_apply_of x3 _ _ i3 (ix3 0 c l) _ fun a => by
      match a with
      | ⟨0, _⟩ => rfl
      | ⟨1, _⟩ => exact (Nat.zero_add _).symm
      | ⟨2, _⟩ => exact (Nat.zero_add _).symm
  have e4 : View.ld x4 (Rect.unit ![0, q] ![1, 256] i4) (ix2 0 l) = x4 (ix2 0 (gcol k l)) :=
    View.ld_unit_apply_of x4 _ _ i4 (ix2 0 l) _ fun a => by
      match a with
      | ⟨0, _⟩ => rfl
      | ⟨1, _⟩ => subst hq; rfl
  unfold poolAt
  exact congrArg₂ (fun (f : Fin 256 → EReal) (s : EReal) => pooled k _ _ _ r f s) (funext e3) e4

/-- A store of a head's columns stores its part of the mixed columns. -/
theorem gate_piece (k : Fin 2) (h : Fin 8) (o q Q : ℕ) (ho : o = k.val * 128) (hq : q = h.val * 128) (hQ : Q = 1024 + q)
    (i0 : ∀ a, (![o, Q] : Fin 2 → ℕ) a + (![128, 128] : Fin 2 → ℕ) a ≤ S256x2048.size a)
    (ib : ∀ a, (![0, q] : Fin 2 → ℕ) a + (![128, 128] : Fin 2 → ℕ) a ≤ S128x1024.size a)
    (hs : S256x1024.Slices ![o, q] S128x128) (p : S128x128.Idx) :
    gateBlock o q hs U (k0_pay35 (F := Ideal) V g) (WS h) (View.ld x7 (Rect.unit ![0, q] ![128, 128] ib)) p
      = mixed A U V g v9 H WS x3 x4 x7 ((Rect.unit (s := S256x2048) ![o, Q] ![128, 128] i0).emb p) := by
  obtain ⟨t, l, rfl⟩ : ∃ (t l : Fin 128), p = ix2 t l := ⟨p 0, p 1, eq_ix2 p⟩
  have he : (Rect.unit (s := S256x2048) ![o, Q] ![128, 128] i0).emb (ix2 t l) = ix2 (hrow k t) (scol h l) := by
    funext a
    apply Fin.ext
    refine (Rect.idx_unit_val _ _ i0 (ix2 t l) a).trans ?_
    match a with
    | ⟨0, _⟩ => subst ho; rfl
    | ⟨1, _⟩ => subst hQ; subst hq; exact Nat.add_assoc _ _ _
  rw [he, mixed_gate, gateBlock_apply k h o q ho hq]
  have eb : View.ld x7 (Rect.unit ![0, q] ![128, 128] ib) (ix2 t l) = x7 (ix2 t (hcol h l)) :=
    View.ld_unit_apply_of x7 _ _ ib (ix2 t l) _ fun a => by
      match a with
      | ⟨0, _⟩ => exact (Nat.zero_add _).symm
      | ⟨1, _⟩ => subst hq; rfl
  unfold gateAt
  exact congrArg (gate _ _ _) eb

/-- The stores of the mixed columns, last first. -/
def stores : List (View.Piece (Elt Ideal) S256x2048 .bf16) :=
  [ ⟨Rect.unit ![128, 1920] ![128, 128] inb_S256x2048_S128x128_128_1920,
      k0_pay2 U (k0_pay35 V g) (WS 7) (View.ld x7 (Rect.unit ![0, 896] ![128, 128] inb_S128x1024_S128x128_0_896))⟩,
    ⟨Rect.unit ![128, 1792] ![128, 128] inb_S256x2048_S128x128_128_1792,
      k0_pay1 (k0_pay53 U (k0_pay35 V g) (WS 6) (View.ld x7 (Rect.unit ![0, 768] ![128, 128] inb_S128x1024_S128x128_0_768)))⟩,
    ⟨Rect.unit ![128, 1664] ![128, 128] inb_S256x2048_S128x128_128_1664,
      k0_pay52 U (k0_pay35 V g) (WS 5) (View.ld x7 (Rect.unit ![0, 640] ![128, 128] inb_S128x1024_S128x128_0_640))⟩,
    ⟨Rect.unit ![128, 1536] ![128, 128] inb_S256x2048_S128x128_128_1536,
      k0_pay51 U (k0_pay35 V g) (WS 4) (View.ld x7 (Rect.unit ![0, 512] ![128, 128] inb_S128x1024_S128x128_0_512))⟩,
    ⟨Rect.unit ![128, 1408] ![128, 128] inb_S256x2048_S128x128_128_1408,
      k0_pay50 U (k0_pay35 V g) (WS 3) (View.ld x7 (Rect.unit ![0, 384] ![128, 128] inb_S128x1024_S128x128_0_384))⟩,
    ⟨Rect.unit ![128, 1280] ![128, 128] inb_S256x2048_S128x128_128_1280,
      k0_pay49 U (k0_pay35 V g) (WS 2) (View.ld x7 (Rect.unit ![0, 256] ![128, 128] inb_S128x1024_S128x128_0_256))⟩,
    ⟨Rect.unit ![128, 1152] ![128, 128] inb_S256x2048_S128x128_128_1152,
      k0_pay48 U (k0_pay47 (k0_pay35 V g) (WS 1)) (View.ld x7 (Rect.unit ![0, 128] ![128, 128] inb_S128x1024_S128x128_0_128))⟩,
    ⟨Rect.unit ![128, 1024] ![128, 128] inb_S256x2048_S128x128_128_1024,
      k0_pay46 U (k0_pay35 V g) (WS 0) (View.ld x7 (Rect.unit ![0, 0] ![128, 128] inb_S128x1024_S128x128_0_0))⟩,
    ⟨Rect.unit ![0, 1920] ![128, 128] inb_S256x2048_S128x128_0_1920,
      k0_pay45 U (k0_pay35 V g) (WS 7) (View.ld x7 (Rect.unit ![0, 896] ![128, 128] inb_S128x1024_S128x128_0_896))⟩,
    ⟨Rect.unit ![0, 1792] ![128, 128] inb_S256x2048_S128x128_0_1792,
      k0_pay44 (k0_pay43 U (k0_pay35 V g) (WS 6) (View.ld x7 (Rect.unit ![0, 768] ![128, 128] inb_S128x1024_S128x128_0_768)))⟩,
    ⟨Rect.unit ![0, 1664] ![128, 128] inb_S256x2048_S128x128_0_1664,
      k0_pay42 U (k0_pay35 V g) (WS 5) (View.ld x7 (Rect.unit ![0, 640] ![128, 128] inb_S128x1024_S128x128_0_640))⟩,
    ⟨Rect.unit ![0, 1536] ![128, 128] inb_S256x2048_S128x128_0_1536,
      k0_pay41 U (k0_pay35 V g) (WS 4) (View.ld x7 (Rect.unit ![0, 512] ![128, 128] inb_S128x1024_S128x128_0_512))⟩,
    ⟨Rect.unit ![0, 1408] ![128, 128] inb_S256x2048_S128x128_0_1408,
      k0_pay40 U (k0_pay35 V g) (WS 3) (View.ld x7 (Rect.unit ![0, 384] ![128, 128] inb_S128x1024_S128x128_0_384))⟩,
    ⟨Rect.unit ![0, 1280] ![128, 128] inb_S256x2048_S128x128_0_1280,
      k0_pay39 U (k0_pay35 V g) (WS 2) (View.ld x7 (Rect.unit ![0, 256] ![128, 128] inb_S128x1024_S128x128_0_256))⟩,
    ⟨Rect.unit ![0, 1152] ![128, 128] inb_S256x2048_S128x128_0_1152,
      k0_pay38 U (k0_pay35 V g) (k0_pay37 (WS 1)) (View.ld x7 (Rect.unit ![0, 128] ![128, 128] inb_S128x1024_S128x128_0_128))⟩,
    ⟨Rect.unit ![0, 1024] ![128, 128] inb_S256x2048_S128x128_0_1024,
      k0_pay36 U V g (WS 0) (View.ld x7 (Rect.unit ![0, 0] ![128, 128] inb_S128x1024_S128x128_0_0))⟩,
    ⟨Rect.unit ![0, 768] ![256, 256] inb_S256x2048_S256x256_0_768, k0_pay34 (k0_pay33 A (k0_pay24 A H) (k0_pay26 (F := Ideal) v9) (View.ld x3 (Rect.unit ![3, 0, 0] ![1, 256, 256] inb_S4x256x256_S1x256x256_3_0_0))) (View.ld x4 (Rect.unit ![0, 768] ![1, 256] inb_S1x1024_S1x256_0_768))⟩,
    ⟨Rect.unit ![0, 512] ![256, 256] inb_S256x2048_S256x256_0_512, k0_pay32 A (k0_pay30 (k0_pay24 A H)) (k0_pay31 (k0_pay26 (F := Ideal) v9)) (FloatOps.ofBits (F := Ideal) .f32 0x3F800000#32) (View.ld x3 (Rect.unit ![2, 0, 0] ![1, 256, 256] inb_S4x256x256_S1x256x256_2_0_0)) (View.ld x4 (Rect.unit ![0, 512] ![1, 256] inb_S1x1024_S1x256_0_512))⟩,
    ⟨Rect.unit ![0, 256] ![256, 256] inb_S256x2048_S256x256_0_256, k0_pay29 A (k0_pay24 A H) (k0_pay26 (F := Ideal) v9) (View.ld x3 (Rect.unit ![1, 0, 0] ![1, 256, 256] inb_S4x256x256_S1x256x256_1_0_0)) (View.ld x4 (Rect.unit ![0, 256] ![1, 256] inb_S1x1024_S1x256_0_256))⟩,
    ⟨Rect.unit ![0, 0] ![256, 256] inb_S256x2048_S256x256_0_0, k0_pay28 (k0_pay27 v9 A H (View.ld x3 (Rect.unit ![0, 0, 0] ![1, 256, 256] inb_S4x256x256_S1x256x256_0_0_0)) (View.ld x4 (Rect.unit ![0, 0] ![1, 256] inb_S1x1024_S1x256_0_0)))⟩ ]

/-- What the stores leave, read back whole. -/
theorem stores_read (w : View sig .tc .vmem S256x2048 .bf16) (hi : ∀ a, (![0, 0] : Fin 2 → ℕ) a + (![256, 2048] : Fin 2 → ℕ) a ≤ S256x2048.size a) :
    View.readCov w (stores A U V g v9 H WS x3 x4 x7) (Rect.unit (s := S256x2048) ![0, 0] ![256, 2048] hi).toLoadRect = mixed A U V g v9 H WS x3 x4 x7 := by
  rw [View.readCov_eq_canon']
  funext y
  unfold stores
  refine (View.canon_append_of_piecesOf (mixed A U V g v9 H WS x3 x4 x7) [] [_, _, _, _, _, _, _, _, _, _, _, _, _, _, _, _, _, _, _, _] ⟨?_, ?_, ?_, ?_, ?_, ?_, ?_, ?_, ?_, ?_, ?_, ?_, ?_, ?_, ?_, ?_, ?_, ?_, ?_, ?_, trivial⟩ _
    (View.cover_of_tiledBy _ ![128, 128] (by sl_kernel_rfl) _)).trans ?_
  · exact gate_piece A U V g v9 H WS x3 x4 x7 1 7 128 896 1920 rfl rfl rfl inb_S256x2048_S128x128_128_1920 inb_S128x1024_S128x128_0_896
      slices_S256x1024_o128_896_S128x128
  · exact gate_piece A U V g v9 H WS x3 x4 x7 1 6 128 768 1792 rfl rfl rfl inb_S256x2048_S128x128_128_1792 inb_S128x1024_S128x128_0_768
      slices_S256x1024_o128_768_S128x128
  · exact gate_piece A U V g v9 H WS x3 x4 x7 1 5 128 640 1664 rfl rfl rfl inb_S256x2048_S128x128_128_1664 inb_S128x1024_S128x128_0_640
      slices_S256x1024_o128_640_S128x128
  · exact gate_piece A U V g v9 H WS x3 x4 x7 1 4 128 512 1536 rfl rfl rfl inb_S256x2048_S128x128_128_1536 inb_S128x1024_S128x128_0_512
      slices_S256x1024_o128_512_S128x128
  · exact gate_piece A U V g v9 H WS x3 x4 x7 1 3 128 384 1408 rfl rfl rfl inb_S256x2048_S128x128_128_1408 inb_S128x1024_S128x128_0_384
      slices_S256x1024_o128_384_S128x128
  · exact gate_piece A U V g v9 H WS x3 x4 x7 1 2 128 256 1280 rfl rfl rfl inb_S256x2048_S128x128_128_1280 inb_S128x1024_S128x128_0_256
      slices_S256x1024_o128_256_S128x128
  · exact gate_piece A U V g v9 H WS x3 x4 x7 1 1 128 128 1152 rfl rfl rfl inb_S256x2048_S128x128_128_1152 inb_S128x1024_S128x128_0_128
      slices_S256x1024_o128_128_S128x128
  · exact gate_piece A U V g v9 H WS x3 x4 x7 1 0 128 0 1024 rfl rfl rfl inb_S256x2048_S128x128_128_1024 inb_S128x1024_S128x128_0_0
      slices_S256x1024_o128_0_S128x128
  · exact gate_piece A U V g v9 H WS x3 x4 x7 0 7 0 896 1920 rfl rfl rfl inb_S256x2048_S128x128_0_1920 inb_S128x1024_S128x128_0_896
      slices_S256x1024_o0_896_S128x128
  · exact gate_piece A U V g v9 H WS x3 x4 x7 0 6 0 768 1792 rfl rfl rfl inb_S256x2048_S128x128_0_1792 inb_S128x1024_S128x128_0_768
      slices_S256x1024_o0_768_S128x128
  · exact gate_piece A U V g v9 H WS x3 x4 x7 0 5 0 640 1664 rfl rfl rfl inb_S256x2048_S128x128_0_1664 inb_S128x1024_S128x128_0_640
      slices_S256x1024_o0_640_S128x128
  · exact gate_piece A U V g v9 H WS x3 x4 x7 0 4 0 512 1536 rfl rfl rfl inb_S256x2048_S128x128_0_1536 inb_S128x1024_S128x128_0_512
      slices_S256x1024_o0_512_S128x128
  · exact gate_piece A U V g v9 H WS x3 x4 x7 0 3 0 384 1408 rfl rfl rfl inb_S256x2048_S128x128_0_1408 inb_S128x1024_S128x128_0_384
      slices_S256x1024_o0_384_S128x128
  · exact gate_piece A U V g v9 H WS x3 x4 x7 0 2 0 256 1280 rfl rfl rfl inb_S256x2048_S128x128_0_1280 inb_S128x1024_S128x128_0_256
      slices_S256x1024_o0_256_S128x128
  · exact gate_piece A U V g v9 H WS x3 x4 x7 0 1 0 128 1152 rfl rfl rfl inb_S256x2048_S128x128_0_1152 inb_S128x1024_S128x128_0_128
      slices_S256x1024_o0_128_S128x128
  · exact gate_piece A U V g v9 H WS x3 x4 x7 0 0 0 0 1024 rfl rfl rfl inb_S256x2048_S128x128_0_1024 inb_S128x1024_S128x128_0_0
      slices_S256x1024_o0_0_S128x128
  · exact pool_piece A U V g v9 H WS x3 x4 x7 3 768 rfl inb_S256x2048_S256x256_0_768 inb_S4x256x256_S1x256x256_3_0_0
      inb_S1x1024_S1x256_0_768 _ (fun r l => pay34_apply A _ _ _ _ r l)
  · exact pool_piece A U V g v9 H WS x3 x4 x7 2 512 rfl inb_S256x2048_S256x256_0_512 inb_S4x256x256_S1x256x256_2_0_0
      inb_S1x1024_S1x256_0_512 _ (fun r l => pay32_apply A _ _ _ _ r l)
  · exact pool_piece A U V g v9 H WS x3 x4 x7 1 256 rfl inb_S256x2048_S256x256_0_256 inb_S4x256x256_S1x256x256_1_0_0
      inb_S1x1024_S1x256_0_256 _ (fun r l => pay29_apply A _ _ _ _ r l)
  · exact pool_piece A U V g v9 H WS x3 x4 x7 0 0 rfl inb_S256x2048_S256x256_0_0 inb_S4x256x256_S1x256x256_0_0_0
      inb_S1x1024_S1x256_0_0 _ (fun r l => pay28_apply A _ _ r l v9 H)
  · refine congrArg _ (funext fun a => Fin.ext ?_)
    refine (Rect.idx_unit_val _ _ _ y a).trans ?_
    match a with
    | ⟨0, _⟩ => exact Nat.zero_add _
    | ⟨1, _⟩ => exact Nat.zero_add _

end Cert.MixKernel

end
-- ==== Proof.MixKernel.lean ====
module

public import proofs.«01_k».proof.Proof.MixStores
public import proofs.«01_k».proof.Proof.Gen.MixIdeal.Value
public import Idealize.ShloMosaic.Lib.Pipeline.ReadBack
public import Idealize.ShloMosaic.Lib.Pipeline.ValueKit

@[expose] public section

set_option maxRecDepth 16384

noncomputable section

namespace Cert.MixKernel

open Cert.MixPay Cert.MixRows Cert.MixIdeal Cert.MixIdeal.Gen Idealize.ShloMosaic Idealize.ShloMosaic.TcCoe Idealize.ShloMosaic.Tactic

/-- The tile's place in its sequence, as the body computes it from the grid's coordinates. -/
def place (i : grid0.Coords) : BitVec 32 :=
  Scalar.select
    (Scalar.andi (Scalar.xori (Scalar.cmpi .slt (Scalar.remsi (BitVec.ofNat 32 (i 0).val) 16#32) 0#32) 0#1)
      (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)

/-- Head `h` of eight heads' weights. -/
def slab {e : EltTy} (X : Vec Ideal S8x128x128 e) (h : Fin 8) : Vec Ideal S1x128x128 e :=
  View.ld X (Rect.unit ![h.val, 0, 0] ![1, 128, 128] (fun a => by
    match a with
    | ⟨0, _⟩ => show h.val + 1 ≤ 8; omega
    | ⟨1, _⟩ => exact Nat.le_refl 128
    | ⟨2, _⟩ => exact Nat.le_refl 128))

/-- The heads' masked weights, head by head. -/
def maskedSlab (X : Vec Ideal S8x128x128 .f32) (h : Fin 8) : Vec Ideal S1x128x128 .bf16 := maskBlock (k0_pay7 k0_pay4 k0_pay5 k0_pay6) (slab X h)

/-- The heads' masked weights. -/
def masked (X : Vec Ideal S8x128x128 .f32) : Vec Ideal S8x128x128 .bf16 := fun y => maskedSlab X (y 0) (ix3 0 (y 1) (y 2))

theorem slab_apply {e : EltTy} (X : Vec Ideal S8x128x128 e) (h : Fin 8) (t s : Fin 128) : slab X h (ix3 0 t s) = X (ix3 h t s) :=
  View.ld_unit_apply_of X _ _ _ (ix3 0 t s) _ fun a => by
    match a with
    | ⟨0, _⟩ => rfl
    | ⟨1, _⟩ => exact (Nat.zero_add _).symm
    | ⟨2, _⟩ => exact (Nat.zero_add _).symm

theorem maskedSlab_apply (X : Vec Ideal S8x128x128 .f32) (h : Fin 8) (t s : Fin 128) :
    maskedSlab X h (ix3 0 t s) = if s.val / 64 ≤ t.val / 64 then X (ix3 h t s) else 0 := by
  unfold maskedSlab
  rw [maskBlock_apply, slab_apply]

theorem slab_masked (X : Vec Ideal S8x128x128 .f32) (h : Fin 8) (t s : Fin 128) : slab (masked X) h (ix3 0 t s) = maskedSlab X h (ix3 0 t s) := slab_apply _ h t s

theorem mask_piece (X : Vec Ideal S8x128x128 .f32) (h : Fin 8) (inb : ∀ a, (![h.val, 0, 0] : Fin 3 → ℕ) a + (![1, 128, 128] : Fin 3 → ℕ) a ≤ S8x128x128.size a)
    (p : S1x128x128.Idx) : maskedSlab X h p = masked X ((Rect.unit (s := S8x128x128) ![h.val, 0, 0] ![1, 128, 128] inb).emb p) := by
  obtain ⟨z, t, s, rfl⟩ : ∃ (z : Fin 1) (t s : Fin 128), p = ix3 z t s := ⟨p 0, p 1, p 2, eq_ix3 p⟩
  obtain rfl : z = 0 := Subsingleton.elim _ _
  have he : (Rect.unit (s := S8x128x128) ![h.val, 0, 0] ![1, 128, 128] inb).emb (ix3 0 t s) = ix3 h t s := by
    funext a
    apply Fin.ext
    refine (Rect.idx_unit_val _ _ inb (ix3 0 t s) a).trans ?_
    match a with
    | ⟨0, _⟩ => rfl
    | ⟨1, _⟩ => exact Nat.zero_add _
    | ⟨2, _⟩ => exact Nat.zero_add _
  rw [he]
  rfl

section
variable (x0 : Vec Ideal S256x2048 .f32) (x1 : Vec Ideal S1x2048 .f32) (x2 : Vec Ideal S2048x3072 .bf16)

/-- The tile's three thirds of the first product: the pooled columns, the gates, the heads' columns. -/
def third0 : FVec Ideal S256x1024 .f32 := k0_pay21 x0 x1 (View.ld x2 (Rect.unit ![0, 0] ![2048, 1024] inb_S2048x3072_S2048x1024_0_0))
/-- The gates. -/
def third1 : FVec Ideal S256x1024 .f32 := k0_pay22 (k0_pay20 x0 x1) (View.ld x2 (Rect.unit ![0, 1024] ![2048, 1024] inb_S2048x3072_S2048x1024_0_1024))
/-- The heads' columns. -/
def third2 : FVec Ideal S256x1024 .f32 := k0_pay23 (k0_pay20 x0 x1) (View.ld x2 (Rect.unit ![0, 2048] ![2048, 1024] inb_S2048x3072_S2048x1024_0_2048))

end

variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S2048x3072 .bf16) (h3 : a3.IsWhole) (a4 : Memref sig .tc .vmem S4x256x256 .bf16) (h4 : a4.IsWhole)
  (a5 : Memref sig .tc .vmem S1x1024 .f32) (h5 : a5.IsWhole) (a6 : Memref sig .tc .vmem S1x1024 .f32) (h6 : a6.IsWhole)
  (a7 : Memref sig .tc .vmem S8x128x128 .f32) (h7 : a7.IsWhole) (a8 : Memref sig .tc .vmem S128x1024 .f32) (h8 : a8.IsWhole)
  (a9 : Memref sig .tc .vmem S2048x2048 .bf16) (h9 : a9.IsWhole) (a10 : Memref sig .tc .vmem S256x2048 .f32) (h10 : a10.IsWhole)
  (a11 : Memref sig .tc .vmem S16x1024 .f32) (h11 : a11.IsWhole) (a12 : Memref sig .tc .vmem S8x128x128 .bf16) (h12 : a12.IsWhole)
  (a13 : Memref sig .tc .vmem S256x2048 .bf16) (h13 : a13.IsWhole)
  (x0 : Vec Ideal S256x2048 .f32) (x1 : Vec Ideal S1x2048 .f32) (x2 : Vec Ideal S2048x3072 .bf16) (x3 : Vec Ideal S4x256x256 .bf16)
  (x4 : Vec Ideal S1x1024 .f32) (x5 : Vec Ideal S1x1024 .f32) (x6 : Vec Ideal S8x128x128 .f32) (x7 : Vec Ideal S128x1024 .f32)
  (x8 : Vec Ideal S2048x2048 .bf16) (xs0 : Vec Ideal S16x1024 .f32) (xs1 : Vec Ideal S8x128x128 .bf16)

theorem out_A_9 (hc0 : cond0_0 i) (hc1 : cond0_1 i) :
    out0_A_9 (F := Ideal) c i a1 h1 a2 h2 a3 h3 a4 h4 a5 h5 a6 h6 a7 h7 a8 h8 a9 h9 a10 h10 a11 h11 a12 h12 a13 h13 hc0 hc1 x0 x1 x2 x3 x4 x5 x6 x7 x8
      = k0_pay3 (k0_pay19 x0) (mixed (third0 x0 x1 x2) (third1 x0 x1 x2) (third2 x0 x1 x2) x5 (place i) (k0_pay18 (F := Ideal)) (maskedSlab x6) x3 x4 x7) x8 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  simp (disch := decide) only [↓ View.readCov_skip, ↓ View.readCov_cons_toLoadRect, ↓ View.readCov_fill]
  refine congrArg (fun o => k0_pay3 (k0_pay19 x0) o x8) ?_
  exact stores_read (third0 x0 x1 x2) (third1 x0 x1 x2) (third2 x0 x1 x2) x5 (place i) (k0_pay18 (F := Ideal)) (maskedSlab x6) x3 x4 x7 a13.view inb_S256x2048_S256x2048_0_0

/-- The rows the next tile finds before its own. -/
theorem sout_A_0 (hc0 : cond0_0 i) (hc1 : cond0_1 i) :
    sout0_A_0 (F := Ideal) c i a1 h1 a2 h2 a3 h3 a4 h4 a5 h5 a6 h6 a7 h7 a8 h8 a9 h9 a10 h10 a11 h11 a12 h12 a13 h13 hc0 hc1 x0 x1 x2 x3 x4 x5 x6 x7 x8 = k0_pay25 (third0 x0 x1 x2) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_cons_unit_lit (S := S16x1024) (off := ![0, 0]) inb_S16x1024_S16x1024_0_0 _ _ (fun a => congrFun hz a)]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  rfl

theorem out_B_9 (hc0 : ¬cond0_0 i) (hc1 : ¬cond0_1 i) :
    out0_B_9 (F := Ideal) c i a1 h1 a2 h2 a3 h3 a4 h4 a5 h5 a6 h6 a7 h7 a8 h8 a9 h9 a10 h10 a11 h11 a12 h12 a13 h13 hc0 hc1 x0 x1 x2 x3 x4 x5 x6 x7 x8 xs0 xs1
      = k0_pay3 (k0_pay19 x0) (mixed (third0 x0 x1 x2) (third1 x0 x1 x2) (third2 x0 x1 x2) x5 (place i) xs0 (slab xs1) x3 x4 x7) x8 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  refine congrArg (fun o => k0_pay3 (k0_pay19 x0) o x8) ?_
  exact stores_read (third0 x0 x1 x2) (third1 x0 x1 x2) (third2 x0 x1 x2) x5 (place i) xs0 (slab xs1) x3 x4 x7 a13.view inb_S256x2048_S256x2048_0_0

/-- The rows the next tile finds before its own. -/
theorem sout_B_0 (hc0 : ¬cond0_0 i) (hc1 : ¬cond0_1 i) :
    sout0_B_0 (F := Ideal) c i a1 h1 a2 h2 a3 h3 a4 h4 a5 h5 a6 h6 a7 h7 a8 h8 a9 h9 a10 h10 a11 h11 a12 h12 a13 h13 hc0 hc1 x0 x1 x2 x3 x4 x5 x6 x7 x8 xs0 xs1 = k0_pay25 (third0 x0 x1 x2) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_B
  dsimp only
  sl_unfold_words
  rw [View.canon_cons_unit_lit (S := S16x1024) (off := ![0, 0]) inb_S16x1024_S16x1024_0_0 _ _ (fun a => congrFun hz a)]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  rfl

theorem out_C_9 (hc0 : ¬cond0_0 i) (hc1 : cond0_1 i) :
    out0_C_9 (F := Ideal) c i a1 h1 a2 h2 a3 h3 a4 h4 a5 h5 a6 h6 a7 h7 a8 h8 a9 h9 a10 h10 a11 h11 a12 h12 a13 h13 hc0 hc1 x0 x1 x2 x3 x4 x5 x6 x7 x8 xs1
      = k0_pay3 (k0_pay19 x0) (mixed (third0 x0 x1 x2) (third1 x0 x1 x2) (third2 x0 x1 x2) x5 (place i) (k0_pay18 (F := Ideal)) (slab xs1) x3 x4 x7) x8 := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 hc0 hc1 x0 x1 x2 x3 x4 x5 x6 x7 x8 xs1)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  simp (disch := decide) only [↓ View.readCov_skip, ↓ View.readCov_cons_toLoadRect, ↓ View.readCov_fill]
  refine congrArg (fun o => k0_pay3 (k0_pay19 x0) o x8) ?_
  exact stores_read (third0 x0 x1 x2) (third1 x0 x1 x2) (third2 x0 x1 x2) x5 (place i) (k0_pay18 (F := Ideal)) (slab xs1) x3 x4 x7 a13.view inb_S256x2048_S256x2048_0_0

/-- The rows the next tile finds before its own. -/
theorem sout_C_0 (hc0 : ¬cond0_0 i) (hc1 : cond0_1 i) :
    sout0_C_0 (F := Ideal) c i a1 h1 a2 h2 a3 h3 a4 h4 a5 h5 a6 h6 a7 h7 a8 h8 a9 h9 a10 h10 a11 h11 a12 h12 a13 h13 hc0 hc1 x0 x1 x2 x3 x4 x5 x6 x7 x8 xs1 = k0_pay25 (third0 x0 x1 x2) := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 hc0 hc1 x0 x1 x2 x3 x4 x5 x6 x7 x8 xs1)]
  unfold kernelRun0_C
  dsimp only
  sl_unfold_words
  rw [View.canon_cons_unit_lit (S := S16x1024) (off := ![0, 0]) inb_S16x1024_S16x1024_0_0 _ _ (fun a => congrFun hz a)]
  simp only [View.readAt_eq_ld, h1.read_unread, h2.read_unread, h3.read_unread, h4.read_unread, h5.read_unread, h6.read_unread,
    h7.read_unread, h8.read_unread, h9.read_unread, h11.read_unread, h12.read_unread,
    View.ld_unit_zero (S := S256x2048) hz, View.ld_unit_zero (S := S1x2048) hz, View.ld_unit_zero (S := S1x1024) hz, View.ld_unit_zero (S := S16x1024) hz,
    View.ld_unit_zero (S := S2048x2048) hz]
  rfl

/-- The masked weights the first point leaves. -/
theorem sout_A_1 (hc0 : cond0_0 i) (hc1 : cond0_1 i) :
    sout0_A_1 (F := Ideal) c i a1 h1 a2 h2 a3 h3 a4 h4 a5 h5 a6 h6 a7 h7 a8 h8 a9 h9 a10 h10 a11 h11 a12 h12 a13 h13 hc0 hc1 x0 x1 x2 x3 x4 x5 x6 x7 x8 = masked x6 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  simp only [View.readAt_eq_ld, h7.read_unread]
  funext y
  refine (View.canon_append_of_piecesOf (masked x6) [] [_, _, _, _, _, _, _, _] ⟨?_, ?_, ?_, ?_, ?_, ?_, ?_, ?_, trivial⟩ y
    (View.cover_of_tiledL _ ![1, 128, 128] (by sl_kernel_rfl) _))
  · exact mask_piece x6 7 inb_S8x128x128_S1x128x128_7_0_0
  · exact mask_piece x6 6 inb_S8x128x128_S1x128x128_6_0_0
  · exact mask_piece x6 5 inb_S8x128x128_S1x128x128_5_0_0
  · exact mask_piece x6 4 inb_S8x128x128_S1x128x128_4_0_0
  · exact mask_piece x6 3 inb_S8x128x128_S1x128x128_3_0_0
  · exact mask_piece x6 2 inb_S8x128x128_S1x128x128_2_0_0
  · exact mask_piece x6 1 inb_S8x128x128_S1x128x128_1_0_0
  · exact mask_piece x6 0 inb_S8x128x128_S1x128x128_0_0_0

end Cert.MixKernel

end
-- ==== Proof.MixBlocks.lean ====
module

public import proofs.«01_k».proof.Proof.MixKernel

@[expose] public section

set_option maxRecDepth 16384

noncomputable section

/-! What the windows of the mixing kernel hold at a grid point. -/

namespace Cert.MixBlocks

open Cert.MixIdeal Cert.MixIdeal.Gen Idealize.ShloMosaic Idealize.ShloMosaic.TcCoe Idealize.ShloMosaic.Tactic
open Idealize.ShloMosaic.StableHlo Cert.MixPay

variable (m : (ℓ : Loc nD τ sig) → Buf (Elt Ideal) ℓ)

theorem V_x (c : Dev nD) (b : Fin 4) (s : Fin 4096) (k : Fin 2048) (h : b.val * 4096 + s.val < 16384) :
    V m c main_v0 (ix2 ⟨b.val * 4096 + s.val, h⟩ k) = m ((c : Thread nD τ).loc main_arg0) (ix3 b s k) := by
  unfold V hostOps0
  after_results
  exact shapeCast_apply _ shapeCasts_S4x4096x2048_S16384x2048 _ (ix3 b s k) (by
    rewrite [Shape.rowMajor_val_three, Shape.rowMajor_val_two]
    rfl)

theorem V_bias (c : Dev nD) (t : Fin 128) (h : Fin 8) (l : Fin 128) :
    V m c main_v4 (ix2 t (hcol h l)) = m ((c : Thread nD τ).loc main_arg7) (ix3 0 h t) := by
  unfold V hostOps0
  after_results
  refine (shapeCast_apply _ shapeCasts_S128x8x128_S128x1024 (ix2 t (hcol h l)) (ix3 t h l) ?_).trans ?_
  · rewrite [Shape.rowMajor_val_three, Shape.rowMajor_val_two]
    show (t.val * 8 + h.val) * 128 + l.val = t.val * 1024 + (h.val * 128 + l.val)
    omega
  · pointwise

theorem V_g (c : Dev nD) (k : Fin 2048) : V m c main_v6 (ix2 0 k) = m ((c : Thread nD τ).loc main_arg1) (ix2 0 k) := by
  unfold V hostOps0
  after_results
  pointwise

theorem V_win (c : Dev nD) (k : Fin 2048) (f : Fin 3072) : V m c main_v8 (ix2 k f) = m ((c : Thread nD τ).loc main_arg2) (ix3 0 k f) := by
  unfold V hostOps0
  after_results
  pointwise

theorem V_pw (c : Dev nD) (k : Fin 4) (p l : Fin 256) : V m c main_v10 (ix3 k p l) = m ((c : Thread nD τ).loc main_arg3) (ix4 0 k p l) := by
  unfold V hostOps0
  after_results
  pointwise

theorem V_ps (c : Dev nD) (l : Fin 1024) : V m c main_v12 (ix2 0 l) = m ((c : Thread nD τ).loc main_arg4) (ix2 0 l) := by
  unfold V hostOps0
  after_results
  pointwise

theorem V_sg (c : Dev nD) (l : Fin 1024) : V m c main_v14 (ix2 0 l) = m ((c : Thread nD τ).loc main_arg5) (ix2 0 l) := by
  unfold V hostOps0
  after_results
  pointwise

theorem V_ws (c : Dev nD) (h : Fin 8) (u s : Fin 128) : V m c main_v15 (ix3 h u s) = m ((c : Thread nD τ).loc main_arg6) (ix4 0 h u s) := by
  unfold V hostOps0
  after_results
  pointwise

theorem V_wo (c : Dev nD) (k l : Fin 2048) : V m c main_v17 (ix2 k l) = m ((c : Thread nD τ).loc main_arg8) (ix3 0 k l) := by
  unfold V hostOps0
  after_results
  pointwise

/-- The blocks of a grid point. -/
theorem index0 : ∀ t : Fin cfg0.N, win0_0.index t 0 = t.val ∧ win0_0.index t 1 = 0 := (by decide +kernel : ∀ t : Fin grid0.N, _)
theorem index1 : ∀ (t : Fin cfg0.N) (a : Fin 2), win0_1.index t a = 0 := (by decide +kernel : ∀ (t : Fin grid0.N) (a : Fin 2), _)
theorem index2 : ∀ (t : Fin cfg0.N) (a : Fin 2), win0_2.index t a = 0 := (by decide +kernel : ∀ (t : Fin grid0.N) (a : Fin 2), _)
theorem index3 : ∀ (t : Fin cfg0.N) (a : Fin 3), win0_3.index t a = 0 := (by decide +kernel : ∀ (t : Fin grid0.N) (a : Fin 3), _)
theorem index4 : ∀ (t : Fin cfg0.N) (a : Fin 2), win0_4.index t a = 0 := (by decide +kernel : ∀ (t : Fin grid0.N) (a : Fin 2), _)
theorem index5 : ∀ (t : Fin cfg0.N) (a : Fin 2), win0_5.index t a = 0 := (by decide +kernel : ∀ (t : Fin grid0.N) (a : Fin 2), _)
theorem index6 : ∀ (t : Fin cfg0.N) (a : Fin 3), win0_6.index t a = 0 := (by decide +kernel : ∀ (t : Fin grid0.N) (a : Fin 3), _)
theorem index7 : ∀ (t : Fin cfg0.N) (a : Fin 2), win0_7.index t a = 0 := (by decide +kernel : ∀ (t : Fin grid0.N) (a : Fin 2), _)
theorem index8 : ∀ (t : Fin cfg0.N) (a : Fin 2), win0_8.index t a = 0 := (by decide +kernel : ∀ (t : Fin grid0.N) (a : Fin 2), _)
theorem index9 : ∀ t : Fin cfg0.N, win0_9.index t 0 = t.val ∧ win0_9.index t 1 = 0 := (by decide +kernel : ∀ t : Fin grid0.N, _)
theorem flush9 : ∀ t : Fin cfg0.N, (cfg0.win 9).flush t = true := (by decide +kernel : ∀ t : Fin grid0.N, win0_9.flush t = true)

/-- The tile's place in its sequence. -/
theorem place_eq : ∀ t : Fin cfg0.N, Cert.MixKernel.place (grid0.coords t) = BitVec.ofNat 32 (t.val % 16) :=
  (by decide +kernel : ∀ t : Fin grid0.N, _)

/-- The sequence a tile's row belongs to, and its place there. -/
def seq (t : Fin cfg0.N) : Fin 4 := ⟨t.val / 16, by have h : t.val < 64 := t.isLt; omega⟩
def pos (t : Fin cfg0.N) (r : Fin 256) : Fin 4096 := ⟨t.val % 16 * 256 + r.val, by omega⟩

theorem iblk0 (c : Dev nD) (t : Fin cfg0.N) (r : Fin 256) (k : Fin 2048) :
    iblk m c 0 t (ix2 r k) = m ((c : Thread nD τ).loc main_arg0) (ix3 (seq t) (pos t r) k) := by
  have ht : t.val < 64 := t.isLt
  rw [← V_x m c (seq t) (pos t r) k (by show t.val / 16 * 4096 + (t.val % 16 * 256 + r.val) < 16384; omega)]
  unfold iblk
  rw [View.read_apply]
  show V m c main_v0 _ = _
  congr 1
  funext a
  apply Fin.ext
  match a with
  | ⟨0, _⟩ =>
    show win0_0.index t 0 * 256 + 1 * r.val = t.val / 16 * 4096 + (t.val % 16 * 256 + r.val)
    rw [(index0 t).1]; omega
  | ⟨1, _⟩ =>
    show win0_0.index t 1 * 2048 + 1 * k.val = k.val
    rw [(index0 t).2]; omega

theorem iblk1 (c : Dev nD) (t : Fin cfg0.N) (k : Fin 2048) : iblk m c 1 t (ix2 0 k) = m ((c : Thread nD τ).loc main_arg1) (ix2 0 k) := by
  rw [← V_g m c]
  unfold iblk
  rw [View.read_apply]
  show V m c main_v6 _ = _
  congr 1
  funext a
  apply Fin.ext
  match a with
  | ⟨0, _⟩ =>
    show win0_1.index t 0 * 1 + 1 * 0 = 0
    rw [index1 t 0]
  | ⟨1, _⟩ =>
    show win0_1.index t 1 * 2048 + 1 * k.val = k.val
    rw [index1 t 1]; omega

theorem iblk2 (c : Dev nD) (t : Fin cfg0.N) (k : Fin 2048) (f : Fin 3072) : iblk m c 2 t (ix2 k f) = m ((c : Thread nD τ).loc main_arg2) (ix3 0 k f) := by
  rw [← V_win m c]
  unfold iblk
  rw [View.read_apply]
  show V m c main_v8 _ = _
  congr 1
  funext a
  apply Fin.ext
  match a with
  | ⟨0, _⟩ =>
    show win0_2.index t 0 * 2048 + 1 * k.val = k.val
    rw [index2 t 0]; omega
  | ⟨1, _⟩ =>
    show win0_2.index t 1 * 3072 + 1 * f.val = f.val
    rw [index2 t 1]; omega

theorem iblk3 (c : Dev nD) (t : Fin cfg0.N) (k : Fin 4) (p l : Fin 256) : iblk m c 3 t (ix3 k p l) = m ((c : Thread nD τ).loc main_arg3) (ix4 0 k p l) := by
  rw [← V_pw m c]
  unfold iblk
  rw [View.read_apply]
  show V m c main_v10 _ = _
  congr 1
  funext a
  apply Fin.ext
  match a with
  | ⟨0, _⟩ =>
    show win0_3.index t 0 * 4 + 1 * k.val = k.val
    rw [index3 t 0]; omega
  | ⟨1, _⟩ =>
    show win0_3.index t 1 * 256 + 1 * p.val = p.val
    rw [index3 t 1]; omega
  | ⟨2, _⟩ =>
    show win0_3.index t 2 * 256 + 1 * l.val = l.val
    rw [index3 t 2]; omega

theorem iblk4 (c : Dev nD) (t : Fin cfg0.N) (l : Fin 1024) : iblk m c 4 t (ix2 0 l) = m ((c : Thread nD τ).loc main_arg4) (ix2 0 l) := by
  rw [← V_ps m c]
  unfold iblk
  rw [View.read_apply]
  show V m c main_v12 _ = _
  congr 1
  funext a
  apply Fin.ext
  match a with
  | ⟨0, _⟩ =>
    show win0_4.index t 0 * 1 + 1 * 0 = 0
    rw [index4 t 0]
  | ⟨1, _⟩ =>
    show win0_4.index t 1 * 1024 + 1 * l.val = l.val
    rw [index4 t 1]; omega

theorem iblk5 (c : Dev nD) (t : Fin cfg0.N) (l : Fin 1024) : iblk m c 5 t (ix2 0 l) = m ((c : Thread nD τ).loc main_arg5) (ix2 0 l) := by
  rw [← V_sg m c]
  unfold iblk
  rw [View.read_apply]
  show V m c main_v14 _ = _
  congr 1
  funext a
  apply Fin.ext
  match a with
  | ⟨0, _⟩ =>
    show win0_5.index t 0 * 1 + 1 * 0 = 0
    rw [index5 t 0]
  | ⟨1, _⟩ =>
    show win0_5.index t 1 * 1024 + 1 * l.val = l.val
    rw [index5 t 1]; omega

theorem iblk6 (c : Dev nD) (t : Fin cfg0.N) (h : Fin 8) (u s : Fin 128) : iblk m c 6 t (ix3 h u s) = m ((c : Thread nD τ).loc main_arg6) (ix4 0 h u s) := by
  rw [← V_ws m c]
  unfold iblk
  rw [View.read_apply]
  show V m c main_v15 _ = _
  congr 1
  funext a
  apply Fin.ext
  match a with
  | ⟨0, _⟩ =>
    show win0_6.index t 0 * 8 + 1 * h.val = h.val
    rw [index6 t 0]; omega
  | ⟨1, _⟩ =>
    show win0_6.index t 1 * 128 + 1 * u.val = u.val
    rw [index6 t 1]; omega
  | ⟨2, _⟩ =>
    show win0_6.index t 2 * 128 + 1 * s.val = s.val
    rw [index6 t 2]; omega

theorem iblk8 (c : Dev nD) (t : Fin cfg0.N) (k l : Fin 2048) : iblk m c 8 t (ix2 k l) = m ((c : Thread nD τ).loc main_arg8) (ix3 0 k l) := by
  rw [← V_wo m c]
  unfold iblk
  rw [View.read_apply]
  show V m c main_v17 _ = _
  congr 1
  funext a
  apply Fin.ext
  match a with
  | ⟨0, _⟩ =>
    show win0_8.index t 0 * 2048 + 1 * k.val = k.val
    rw [index8 t 0]; omega
  | ⟨1, _⟩ =>
    show win0_8.index t 1 * 2048 + 1 * l.val = l.val
    rw [index8 t 1]; omega

theorem iblk7 (c : Dev nD) (t : Fin cfg0.N) (s : Fin 128) (h : Fin 8) (l : Fin 128) : iblk m c 7 t (ix2 s (hcol h l)) = m ((c : Thread nD τ).loc main_arg7) (ix3 0 h s) := by
  rw [← V_bias m c s h l]
  unfold iblk
  rw [View.read_apply]
  show V m c main_v4 _ = _
  congr 1
  funext a
  apply Fin.ext
  match a with
  | ⟨0, _⟩ =>
    show win0_7.index t 0 * 128 + 1 * s.val = s.val
    rw [index7 t 0]; omega
  | ⟨1, _⟩ =>
    show win0_7.index t 1 * 1024 + 1 * (hcol h l).val = (hcol h l).val
    rw [index7 t 1]; omega

theorem out_emb (t : Fin cfg0.N) (r : Fin 256) (l : Fin 2048) (h : t.val * 256 + r.val < 16384) :
    (((cfg0.win 9).blk t).view.emb (ix2 r l) : S16384x2048.Idx) = ix2 ⟨t.val * 256 + r.val, h⟩ l := by
  funext a
  apply Fin.ext
  match a with
  | ⟨0, _⟩ =>
    show win0_9.index t 0 * 256 + 1 * r.val = t.val * 256 + r.val
    rw [(index9 t).1]; omega
  | ⟨1, _⟩ =>
    show win0_9.index t 1 * 2048 + 1 * l.val = l.val
    rw [(index9 t).2]; omega

end Cert.MixBlocks

end
-- ==== Proof.MixSpec.lean ====
module

public import proofs.«01_k».proof.Proof.MixPay

@[expose] public section

noncomputable section

/-! The mixing layer's result, row by row. -/

namespace Cert.MixSpec

open Cert.Rows Cert.MixRows Cert.MixPay Idealize.ShloMosaic

/-- A column of the `q`-th third of the projected columns. -/
def lane (q : Fin 3) (l : Fin 1024) : Fin 3072 := ⟨q.val * 1024 + l.val, by omega⟩

/-- The number of rows of a sequence up to row `s`. -/
def count (s : Fin 4096) : EReal := (((s.val : ℝ) + 1 : ℝ) : EReal)

/-- The sum of the last `w` rows of a column up to row `s`. -/
def pastSum (w : ℕ) (f : Fin 4096 → EReal) (s : Fin 4096) : EReal :=
  ∑ i : Fin w, if i.val ≤ s.val then f ⟨s.val - i.val, by omega⟩ else 0

/-- The pooled columns of group `k`, from the window sums `S` and the rows `a`. -/
def poolVal (S a : Fin 256 → EReal) (n : EReal) (pw : Fin 256 → EReal) (ps : EReal) : EReal :=
  (∑ c, (S c * n - a c) * pw c) * ps

/-- The row `q` of the block of 128 rows that row `s` lies in. -/
def inBlock (s : Fin 4096) (q : Fin 128) : Fin 4096 := ⟨s.val / 128 * 128 + q.val, by omega⟩
/-- The place of row `s` in its block. -/
def place (s : Fin 4096) : Fin 128 := ⟨s.val % 128, by omega⟩

section

variable (A U V : Fin 4096 → Fin 1024 → EReal) (pw : Fin 4 → Fin 256 → Fin 256 → EReal) (ps sg : Fin 1024 → EReal)
  (ws : Fin 8 → Fin 128 → Fin 128 → EReal) (bs : Fin 8 → Fin 128 → EReal)

/-- The pooled element of group `k`, column `l`, at row `s`. -/
def poolRow (s : Fin 4096) (k : Fin 4) (l : Fin 256) : EReal :=
  poolVal (fun c => pastSum (win k) (fun s => A s (gcol k c)) s) (fun c => A s (gcol k c)) (Ideal.div one (min (count s) (winF k)))
    (fun c => pw k c l) (ps (gcol k l))

/-- The gated element of head `h`, column `l`, at row `s`. -/
def gateRow (s : Fin 4096) (h : Fin 8) (l : Fin 128) : EReal :=
  gate (U s (hcol h l)) (fun q => if q.val / 64 ≤ (place s).val / 64 then ws h (place s) q else 0)
    (fun q => rms halfWidth (V (inBlock s q)) sg (hcol h l)) (bs h (place s))

/-- The mixed columns of row `s`. -/
def mixRow (s : Fin 4096) (k : Fin 2048) : EReal :=
  if k.val < 1024 then poolRow A pw ps s ⟨k.val / 256 % 4, by omega⟩ ⟨k.val % 256, by omega⟩
  else gateRow U V sg ws bs s ⟨(k.val - 1024) / 128 % 8, by omega⟩ ⟨(k.val - 1024) % 128, by omega⟩

end

end Cert.MixSpec

end
-- ==== Proof.MixCarry.lean ====
module

public import proofs.«01_k».proof.Proof.MixBlocks
public import proofs.«01_k».proof.Proof.MixSpec

@[expose] public section

set_option maxRecDepth 16384

noncomputable section

/-! What the mixing kernel carries from tile to tile, and what a tile's point writes. -/

namespace Cert.MixCarry

open Cert.MixIdeal Cert.MixIdeal.Gen Idealize.ShloMosaic Idealize.ShloMosaic.TcCoe Idealize.ShloMosaic.Tactic
open Idealize.ShloMosaic.StableHlo Cert.Rows Cert.MixRows Cert.MixPay Cert.MixKernel Cert.MixBlocks Cert.MixSpec

variable (m : (ℓ : Loc nD τ sig) → Buf (Elt Ideal) ℓ)

/-- The projected columns of a row: its norm times the weights. -/
def proj (c : Dev nD) (q : Fin 3) (b : Fin 4) (s : Fin 4096) (l : Fin 1024) : EReal :=
  vecMat (rms width (fun j => m ((c : Thread nD τ).loc main_arg0) (ix3 b s j)) (fun j => m ((c : Thread nD τ).loc main_arg1) (ix2 0 j)))
    (fun (k : Fin 2048) f => m ((c : Thread nD τ).loc main_arg2) (ix3 0 k f)) (lane q l)

theorem ld_lane (X : Vec Ideal S2048x3072 .bf16) (q : Fin 3) (o : ℕ) (ho : o = q.val * 1024) (inb : ∀ a, (![0, o] : Fin 2 → ℕ) a + (![2048, 1024] : Fin 2 → ℕ) a ≤ S2048x3072.size a)
    (k : Fin 2048) (l : Fin 1024) : View.ld X (Rect.unit ![0, o] ![2048, 1024] inb) (ix2 k l) = X (ix2 k (lane q l)) :=
  View.ld_unit_apply_of X _ _ inb (ix2 k l) (ix2 k (lane q l)) fun a => by
    match a with
    | ⟨0, _⟩ => exact (Nat.zero_add _).symm
    | ⟨1, _⟩ => subst ho; rfl

theorem third0_block (c : Dev nD) (t : Fin cfg0.N) (r : Fin 256) (l : Fin 1024) :
    third0 (iblk m c 0 t) (iblk m c 1 t) (iblk m c 2 t) (ix2 r l) = proj m c 0 (seq t) (pos t r) l := by
  unfold third0
  rw [pay21_apply]
  unfold proj vecMat
  simp only [iblk0 m c t, iblk1]
  exact Finset.sum_congr rfl fun k _ => congrArg₂ (fun a b : EReal => a * b) rfl ((ld_lane (iblk m c 2 t) 0 0 rfl _ k l).trans (iblk2 m c t k (lane 0 l)))

theorem third1_block (c : Dev nD) (t : Fin cfg0.N) (r : Fin 256) (l : Fin 1024) :
    third1 (iblk m c 0 t) (iblk m c 1 t) (iblk m c 2 t) (ix2 r l) = proj m c 1 (seq t) (pos t r) l := by
  unfold third1
  rw [pay22_apply]
  unfold proj vecMat
  simp only [pay20_apply, iblk0 m c t, iblk1]
  exact Finset.sum_congr rfl fun k _ => congrArg₂ (fun a b : EReal => a * b) rfl ((ld_lane (iblk m c 2 t) 1 1024 rfl _ k l).trans (iblk2 m c t k (lane 1 l)))

theorem third2_block (c : Dev nD) (t : Fin cfg0.N) (r : Fin 256) (l : Fin 1024) :
    third2 (iblk m c 0 t) (iblk m c 1 t) (iblk m c 2 t) (ix2 r l) = proj m c 2 (seq t) (pos t r) l := by
  unfold third2
  rw [pay23_apply]
  unfold proj vecMat
  simp only [pay20_apply, iblk0 m c t, iblk1]
  exact Finset.sum_congr rfl fun k _ => congrArg₂ (fun a b : EReal => a * b) rfl ((ld_lane (iblk m c 2 t) 2 2048 rfl _ k l).trans (iblk2 m c t k (lane 2 l)))

/-- The pooled columns' rows that a tile leaves to the next. -/
def left (c : Dev nD) (t : Fin cfg0.N) : Vec Ideal S16x1024 .f32 := k0_pay25 (third0 (iblk m c 0 t) (iblk m c 1 t) (iblk m c 2 t))

theorem carry0 (c : Dev nD) (t : Fin cfg0.N) : (outsAt0 m c t.val t.isLt).2.1 = left m c t := by
  have ht : t.val < 64 := t.isLt
  by_cases h1 : t.val % 16 = 0
  · by_cases h0 : t.val % 64 = 0
    · rw [outsAt0_A m c t h0 h1]
      dsimp only
      rw [sout_A_0]
      rfl
    · rw [outsAt0_C m c t h0 h1]
      dsimp only
      rw [sout_C_0]
      rfl
  · have h0 : ¬ t.val % 64 = 0 := by omega
    rw [outsAt0_B m c t h0 h1]
    dsimp only
    rw [sout_B_0]
    rfl

theorem carry1_zero (c : Dev nD) (t : Fin cfg0.N) (h0 : t.val % 64 = 0) (h1 : t.val % 16 = 0) : (outsAt0 m c t.val t.isLt).2.2 = masked (iblk m c 6 t) := by
  rw [outsAt0_A m c t h0 h1]
  dsimp only
  rw [sout_A_1]

/-- The heads' masked weights, which every tile after the first finds as the first left them. -/
theorem carry1 (c : Dev nD) (h0 : 0 < cfg0.N) : ∀ (n : ℕ) (hn : n < cfg0.N), (outsAt0 m c n hn).2.2 = masked (iblk m c 6 ⟨0, h0⟩)
  | 0, hn => carry1_zero m c ⟨0, hn⟩ rfl rfl
  | n + 1, hn => by
    have ih := carry1 c h0 n (Nat.lt_of_succ_lt hn)
    have hb : n + 1 < 64 := hn
    have hz : ¬ (n + 1) % 64 = 0 := by omega
    by_cases h1 : (n + 1) % 16 = 0
    · exact (congrArg (fun p => p.2.2) (outsAt0_C m c ⟨n + 1, hn⟩ hz h1)).trans ih
    · exact (congrArg (fun p => p.2.2) (outsAt0_B m c ⟨n + 1, hn⟩ hz h1)).trans ih

/-- The sixteen rows before a tile: none at the head of a sequence. -/
def before (c : Dev nD) (t : Fin cfg0.N) (e : Fin 16) (l : Fin 1024) : EReal :=
  if t.val % 16 = 0 then 0 else proj m c 0 (seq t) ⟨(t.val % 16 * 256 + e.val - 16) % 4096, Nat.mod_lt _ (by decide)⟩ l

theorem left_before (c : Dev nD) (n : ℕ) (hn : n + 1 < cfg0.N) (h1 : ¬ (n + 1) % 16 = 0) (e : Fin 16) (l : Fin 1024) :
    left m c ⟨n, Nat.lt_of_succ_lt hn⟩ (ix2 e l) = before m c ⟨n + 1, hn⟩ e l := by
  have hb : n + 1 < 64 := hn
  unfold left before
  rw [pay25_apply, third0_block, if_neg h1]
  have hs : seq ⟨n, Nat.lt_of_succ_lt hn⟩ = seq ⟨n + 1, hn⟩ := Fin.ext (by show n / 16 = (n + 1) / 16; omega)
  have hp : pos ⟨n, Nat.lt_of_succ_lt hn⟩ ⟨240 + e.val, by omega⟩ = ⟨((n + 1) % 16 * 256 + e.val - 16) % 4096, Nat.mod_lt _ (by decide)⟩ :=
    Fin.ext (by show n % 16 * 256 + (240 + e.val) = ((n + 1) % 16 * 256 + e.val - 16) % 4096; omega)
  rw [hs, hp]

theorem pay18_before (c : Dev nD) (t : Fin cfg0.N) (h1 : t.val % 16 = 0) (e : Fin 16) (l : Fin 1024) :
    k0_pay18 (F := Ideal) (ix2 e l) = before m c t e l := by
  unfold before
  rw [if_pos h1]
  pointwise [k0_pay18]

/-- The heads' weights, zero where the mask is not set. -/
def weights (c : Dev nD) (h : Fin 8) (p s : Fin 128) : EReal :=
  if s.val / 64 ≤ p.val / 64 then m ((c : Thread nD τ).loc main_arg6) (ix4 0 h p s) else 0

theorem maskedSlab_block (c : Dev nD) (t : Fin cfg0.N) (h : Fin 8) (p s : Fin 128) : maskedSlab (iblk m c 6 t) h (ix3 0 p s) = weights m c h p s := by
  rw [maskedSlab_apply, iblk6]
  rfl

/-- What a tile's point writes. -/
def tileOut (c : Dev nD) (t : Fin cfg0.N) (H : Vec Ideal S16x1024 .f32) (WS : Fin 8 → Vec Ideal S1x128x128 .bf16) : Vec Ideal S256x2048 .f32 :=
  k0_pay3 (k0_pay19 (iblk m c 0 t)) (mixed (third0 (iblk m c 0 t) (iblk m c 1 t) (iblk m c 2 t)) (third1 (iblk m c 0 t) (iblk m c 1 t) (iblk m c 2 t))
    (third2 (iblk m c 0 t) (iblk m c 1 t) (iblk m c 2 t)) (iblk m c 5 t) (Cert.MixKernel.place (grid0.coords t)) H WS (iblk m c 3 t) (iblk m c 4 t) (iblk m c 7 t)) (iblk m c 8 t)

theorem point_A (c : Dev nD) (t : Fin cfg0.N) (h0 : t.val % 64 = 0) (h1 : t.val % 16 = 0) :
    (outsAt0 m c t.val t.isLt).1 = tileOut m c t (k0_pay18 (F := Ideal)) (maskedSlab (iblk m c 6 t)) := by
  rw [outsAt0_A m c t h0 h1]
  dsimp only
  rw [out_A_9]
  rfl

theorem point_B (c : Dev nD) (n : ℕ) (hn : n + 1 < cfg0.N) (h0 : ¬ (n + 1) % 64 = 0) (h1 : ¬ (n + 1) % 16 = 0) :
    (outsAt0 m c (n + 1) hn).1 = tileOut m c ⟨n + 1, hn⟩ (outsAt0 m c n (Nat.lt_of_succ_lt hn)).2.1 (slab (outsAt0 m c n (Nat.lt_of_succ_lt hn)).2.2) := by
  refine (congrArg Prod.fst (outsAt0_B m c ⟨n + 1, hn⟩ h0 h1)).trans ?_
  dsimp only
  rw [out_B_9]
  rfl

theorem point_C (c : Dev nD) (n : ℕ) (hn : n + 1 < cfg0.N) (h0 : ¬ (n + 1) % 64 = 0) (h1 : (n + 1) % 16 = 0) :
    (outsAt0 m c (n + 1) hn).1 = tileOut m c ⟨n + 1, hn⟩ (k0_pay18 (F := Ideal)) (slab (outsAt0 m c n (Nat.lt_of_succ_lt hn)).2.2) := by
  refine (congrArg Prod.fst (outsAt0_C m c ⟨n + 1, hn⟩ h0 h1)).trans ?_
  dsimp only
  rw [out_C_9]
  rfl

theorem carried_weights (c : Dev nD) (n : ℕ) (hn : n < cfg0.N) (h : Fin 8) (p s : Fin 128) :
    slab (outsAt0 m c n hn).2.2 h (ix3 0 p s) = weights m c h p s := by
  rw [carry1 m c (Nat.lt_of_le_of_lt (Nat.zero_le n) hn) n hn, slab_masked, maskedSlab_block]

theorem out_point (c : Dev nD) (t : Fin cfg0.N) : ∃ (H : Vec Ideal S16x1024 .f32) (WS : Fin 8 → Vec Ideal S1x128x128 .bf16),
    (outsAt0 m c t.val t.isLt).1 = tileOut m c t H WS ∧ (∀ e l, H (ix2 e l) = before m c t e l)
      ∧ ∀ h p s, WS h (ix3 0 p s) = weights m c h p s := by
  obtain ⟨n, hn⟩ := t
  have ht : n < 64 := hn
  cases n with
  | zero => exact ⟨_, _, point_A m c ⟨0, hn⟩ rfl rfl, pay18_before m c ⟨0, hn⟩ rfl, maskedSlab_block m c ⟨0, hn⟩⟩
  | succ n =>
    have h0 : ¬ (n + 1) % 64 = 0 := by omega
    by_cases h1 : (n + 1) % 16 = 0
    · exact ⟨_, _, point_C m c n hn h0 h1, pay18_before m c ⟨n + 1, hn⟩ h1, carried_weights m c n (Nat.lt_of_succ_lt hn)⟩
    · refine ⟨_, _, point_B m c n hn h0 h1, fun e l => ?_, carried_weights m c n (Nat.lt_of_succ_lt hn)⟩
      rw [carry0 m c ⟨n, Nat.lt_of_succ_lt hn⟩]
      exact left_before m c n hn h1 e l

end Cert.MixCarry

end
-- ==== Proof.MixValue.lean ====
module

public import proofs.«01_k».proof.Proof.MixCarry

@[expose] public section

set_option maxRecDepth 16384

noncomputable section

/-! What the mixing kernel leaves in its result, element by element. -/

namespace Cert.MixValue

open Cert.MixIdeal Cert.MixIdeal.Gen Idealize.ShloMosaic Idealize.ShloMosaic.TcCoe Idealize.ShloMosaic.Tactic
open Idealize.ShloMosaic.StableHlo Cert.Rows Cert.MixRows Cert.MixPay Cert.MixKernel Cert.MixBlocks Cert.MixSpec Cert.MixCarry

variable (m : (ℓ : Loc nD τ sig) → Buf (Elt Ideal) ℓ)

/-- The arguments, by coordinates. -/
def xAt (c : Dev nD) (b : Fin 4) (s : Fin 4096) (l : Fin 2048) : EReal := m ((c : Thread nD τ).loc main_arg0) (ix3 b s l)
def poolW (c : Dev nD) (k : Fin 4) (p l : Fin 256) : EReal := m ((c : Thread nD τ).loc main_arg3) (ix4 0 k p l)
def poolScale (c : Dev nD) (l : Fin 1024) : EReal := m ((c : Thread nD τ).loc main_arg4) (ix2 0 l)
def gateGain (c : Dev nD) (l : Fin 1024) : EReal := m ((c : Thread nD τ).loc main_arg5) (ix2 0 l)
def gateW (c : Dev nD) (h : Fin 8) (p s : Fin 128) : EReal := m ((c : Thread nD τ).loc main_arg6) (ix4 0 h p s)
def gateB (c : Dev nD) (h : Fin 8) (p : Fin 128) : EReal := m ((c : Thread nD τ).loc main_arg7) (ix3 0 h p)
def wOut (c : Dev nD) (k l : Fin 2048) : EReal := m ((c : Thread nD τ).loc main_arg8) (ix3 0 k l)

/-- The mixed columns of row `s` of sequence `b`. -/
def row (c : Dev nD) (b : Fin 4) (s : Fin 4096) : Fin 2048 → EReal :=
  mixRow (proj m c 0 b) (proj m c 1 b) (proj m c 2 b) (poolW m c) (poolScale m c) (gateGain m c) (gateW m c) (gateB m c) s

/-- The place of a tile's row in its sequence, as the kernel counts it. -/
theorem count_pos : ∀ (t : Fin cfg0.N) (r : Fin 256),
    (((BitVec.ofNat 32 (t.val % 16) * 256#32 + BitVec.ofNat 32 r.val + 1#32).toInt : ℝ) : EReal) = Cert.MixSpec.count (pos t r) := by
  intro t r
  have ht : t.val % 16 < 16 := Nat.mod_lt _ (by decide)
  have e : BitVec.ofNat 32 (t.val % 16) * 256#32 + BitVec.ofNat 32 r.val + 1#32 = BitVec.ofNat 32 (t.val % 16 * 256 + r.val + 1) := by
    apply BitVec.eq_of_toNat_eq
    simp only [BitVec.toNat_add, BitVec.toNat_mul, BitVec.toNat_ofNat]
    omega
  have hi : (BitVec.ofNat 32 (t.val % 16 * 256 + r.val + 1)).toInt = ((t.val % 16 * 256 + r.val + 1 : ℕ) : ℤ) := by
    rw [BitVec.toInt_eq_toNat_cond, BitVec.toNat_ofNat]
    have hm : (t.val % 16 * 256 + r.val + 1) % 2 ^ 32 = t.val % 16 * 256 + r.val + 1 := Nat.mod_eq_of_lt (by omega)
    rw [hm, if_pos (by omega)]
  rw [e, hi]
  unfold Cert.MixSpec.count
  congr 1
  show (((t.val % 16 * 256 + r.val + 1 : ℕ) : ℤ) : ℝ) = ((t.val % 16 * 256 + r.val : ℕ) : ℝ) + 1
  rw [Int.cast_natCast, Nat.cast_succ]

section

variable (c : Dev nD) (t : Fin cfg0.N)

/-- A tile's rows with the sixteen before them in front are rows of the sequence. -/
theorem ext_row (H : Vec Ideal S16x1024 .f32) (hH : ∀ e l, H (ix2 e l) = before m c t e l) (e : Fin 272) (l : Fin 1024) :
    k0_pay24 (F := Ideal) (third0 (iblk m c 0 t) (iblk m c 1 t) (iblk m c 2 t)) H (ix2 e l)
      = if 16 ≤ t.val % 16 * 256 + e.val then proj m c 0 (seq t) ⟨(t.val % 16 * 256 + e.val - 16) % 4096, Nat.mod_lt _ (by decide)⟩ l else 0 := by
  rw [pay24_apply]
  by_cases he : e.val < 16
  · rw [dif_pos he, hH]
    unfold before
    by_cases h1 : t.val % 16 = 0
    · rw [if_pos h1, if_neg (by omega)]
    · rw [if_neg h1, if_pos (by omega)]
  · rw [dif_neg he, third0_block, if_pos (by omega)]
    congr 1
    exact Fin.ext (by show t.val % 16 * 256 + (e.val - 16) = (t.val % 16 * 256 + e.val - 16) % 4096; omega)

/-- The kernel's window sums are the sums of the sequence's last rows. -/
theorem tail_past (H : Vec Ideal S16x1024 .f32) (hH : ∀ e l, H (ix2 e l) = before m c t e l) (k : Fin 4) (r : Fin 256) (l : Fin 1024) :
    tail k (fun e => k0_pay24 (F := Ideal) (third0 (iblk m c 0 t) (iblk m c 1 t) (iblk m c 2 t)) H (ix2 e l)) r
      = pastSum (win k) (fun s => proj m c 0 (seq t) s l) (pos t r) := by
  unfold tail pastSum
  refine Finset.sum_congr rfl fun i _ => ?_
  have hi : i.val < 16 := lt_of_lt_of_le i.isLt (win_le k)
  refine (ext_row m c t H hH _ l).trans ?_
  have hp : (pos t r).val = t.val % 16 * 256 + r.val := rfl
  have hiff : 16 ≤ t.val % 16 * 256 + (16 + r.val - i.val) ↔ i.val ≤ (pos t r).val := by omega
  by_cases h : i.val ≤ (pos t r).val
  · rw [if_pos (hiff.mpr h), if_pos h]
    congr 1
    exact Fin.ext (by show (t.val % 16 * 256 + (16 + r.val - i.val) - 16) % 4096 = (pos t r).val - i.val; omega)
  · rw [if_neg (fun hh => h (hiff.mp hh)), if_neg h]

theorem pool_row (H : Vec Ideal S16x1024 .f32) (hH : ∀ e l, H (ix2 e l) = before m c t e l) (k : Fin 4) (r l : Fin 256) :
    poolAt (third0 (iblk m c 0 t) (iblk m c 1 t) (iblk m c 2 t)) (Cert.MixKernel.place (grid0.coords t)) H (iblk m c 3 t) (iblk m c 4 t) k r l
      = poolRow (proj m c 0 (seq t)) (poolW m c) (poolScale m c) (pos t r) k l := by
  unfold poolAt pooled poolRow poolVal
  simp only [tail_past m c t H hH, third0_block, pay26_apply, place_eq, count_pos]
  refine congrArg₂ (fun a b : EReal => a * b) (Finset.sum_congr rfl fun p _ => congrArg₂ (fun a b : EReal => a * b) rfl ?_) ?_
  · exact iblk3 m c t k p l
  · exact iblk4 m c t (gcol k l)

theorem gate_row (WS : Fin 8 → Vec Ideal S1x128x128 .bf16) (hWS : ∀ h p s, WS h (ix3 0 p s) = weights m c h p s) (k : Fin 2) (h : Fin 8) (p l : Fin 128) :
    gateAt (third1 (iblk m c 0 t) (iblk m c 1 t) (iblk m c 2 t)) (third2 (iblk m c 0 t) (iblk m c 1 t) (iblk m c 2 t)) (iblk m c 5 t) WS (iblk m c 7 t) k h p l
      = gateRow (proj m c 1 (seq t)) (proj m c 2 (seq t)) (gateGain m c) (gateW m c) (gateB m c) (pos t (hrow k p)) h l := by
  have hpl : Cert.MixSpec.place (pos t (hrow k p)) = p :=
    Fin.ext (by show (t.val % 16 * 256 + (k.val * 128 + p.val)) % 128 = p.val; omega)
  have hin : ∀ q, inBlock (pos t (hrow k p)) q = pos t (hrow k q) := fun q =>
    Fin.ext (by show (t.val % 16 * 256 + (k.val * 128 + p.val)) / 128 * 128 + q.val = t.val % 16 * 256 + (k.val * 128 + q.val); omega)
  unfold gateAt gateRow gate
  rw [hpl]
  simp only [third1_block, pay35_apply, third2_block, hWS, hin]
  refine congrArg₂ (fun a b : EReal => a * b) rfl (congrArg₂ (fun a b : EReal => a + b) (Finset.sum_congr rfl fun q _ => congrArg₂ (fun a b : EReal => a * b) rfl ?_) ?_)
  · exact congrArg (fun g => rms halfWidth _ g (hcol h l)) (funext fun j => iblk5 m c t j)
  · exact iblk7 m c t p h l

theorem mixed_row (H : Vec Ideal S16x1024 .f32) (WS : Fin 8 → Vec Ideal S1x128x128 .bf16) (hH : ∀ e l, H (ix2 e l) = before m c t e l)
    (hWS : ∀ h p s, WS h (ix3 0 p s) = weights m c h p s) (r : Fin 256) (k : Fin 2048) :
    mixed (third0 (iblk m c 0 t) (iblk m c 1 t) (iblk m c 2 t)) (third1 (iblk m c 0 t) (iblk m c 1 t) (iblk m c 2 t))
        (third2 (iblk m c 0 t) (iblk m c 1 t) (iblk m c 2 t)) (iblk m c 5 t) (Cert.MixKernel.place (grid0.coords t)) H WS (iblk m c 3 t) (iblk m c 4 t) (iblk m c 7 t) (ix2 r k)
      = row m c (seq t) (pos t r) k := by
  unfold row mixRow
  by_cases hk : k.val < 1024
  · rw [if_pos hk, ← pool_row m c t H hH, ← mixed_pool]
    congr 2
    exact Fin.ext (by show k.val = k.val / 256 % 4 * 256 + k.val % 256; omega)
  · have hr : r = hrow ⟨r.val / 128, by omega⟩ ⟨r.val % 128, by omega⟩ := Fin.ext (by show r.val = r.val / 128 * 128 + r.val % 128; omega)
    rw [if_neg hk, hr, ← gate_row m c t WS hWS, ← mixed_gate]
    congr 2
    exact Fin.ext (by show k.val = 1024 + ((k.val - 1024) / 128 % 8 * 128 + (k.val - 1024) % 128); omega)

end

theorem pay19_apply (x : Vec Ideal S256x2048 .f32) (r : Fin 256) (l : Fin 2048) : k0_pay19 (F := Ideal) x (ix2 r l) = x (ix2 r l) := by
  pointwise [k0_pay19]

theorem tile_apply (c : Dev nD) (t : Fin cfg0.N) (H : Vec Ideal S16x1024 .f32) (WS : Fin 8 → Vec Ideal S1x128x128 .bf16)
    (hH : ∀ e l, H (ix2 e l) = before m c t e l) (hWS : ∀ h p s, WS h (ix3 0 p s) = weights m c h p s) (r : Fin 256) (l : Fin 2048) :
    tileOut m c t H WS (ix2 r l) = xAt m c (seq t) (pos t r) l + vecMat (row m c (seq t) (pos t r)) (wOut m c) l := by
  unfold tileOut
  refine (pay3_apply _ _ _ r l).trans ?_
  refine congrArg₂ (fun a b : EReal => a + b) ((pay19_apply _ r l).trans (iblk0 m c t r l)) ?_
  unfold vecMat
  exact Finset.sum_congr rfl fun k _ => congrArg₂ (fun a b : EReal => a * b) (mixed_row m c t H WS hH hWS r k) (iblk8 m c t k l)

/-- The result of the mixing kernel: the row plus its mixed columns times the output weights. -/
theorem arr_block (c : Dev nD) (t : Fin cfg0.N) (r : Fin 256) (l : Fin 2048) (h : t.val * 256 + r.val < 16384) :
    ((dats m 0 c).arrAt 9 cfg0.N : Vec Ideal S16384x2048 .f32) (ix2 ⟨t.val * 256 + r.val, h⟩ l)
      = xAt m c (seq t) (pos t r) l + vecMat (row m c (seq t) (pos t r)) (wOut m c) l := by
  obtain ⟨H, WS, ho, hH, hWS⟩ := out_point m c t
  have hb := Cert.MixIdeal.Value.blocks9 m c t (flush9 t)
  rw [Cert.MixIdeal.Value.flushed9, ho] at hb
  have he := congrFun hb (ix2 r l)
  rw [View.read_apply] at he
  rw [← out_emb t r l h, ← tile_apply m c t H WS hH hWS r l]
  exact he

theorem arr_apply (c : Dev nD) (b : Fin 4) (s : Fin 4096) (l : Fin 2048) (h : b.val * 4096 + s.val < 16384) :
    ((dats m 0 c).arrAt 9 cfg0.N : Vec Ideal S16384x2048 .f32) (ix2 ⟨b.val * 4096 + s.val, h⟩ l)
      = xAt m c b s l + vecMat (row m c b s) (wOut m c) l := by
  have ht : (b.val * 4096 + s.val) / 256 < cfg0.N := by show (b.val * 4096 + s.val) / 256 < 64; omega
  have hr : (⟨(b.val * 4096 + s.val) / 256, ht⟩ : Fin cfg0.N).val * 256 + (⟨(b.val * 4096 + s.val) % 256, by omega⟩ : Fin 256).val < 16384 := by
    show (b.val * 4096 + s.val) / 256 * 256 + (b.val * 4096 + s.val) % 256 < 16384; omega
  have hR : (⟨_, hr⟩ : Fin 16384) = ⟨b.val * 4096 + s.val, h⟩ :=
    Fin.ext (by show (b.val * 4096 + s.val) / 256 * 256 + (b.val * 4096 + s.val) % 256 = b.val * 4096 + s.val; omega)
  have hs : seq ⟨(b.val * 4096 + s.val) / 256, ht⟩ = b := Fin.ext (by show (b.val * 4096 + s.val) / 256 / 16 = b.val; omega)
  have hp : pos ⟨(b.val * 4096 + s.val) / 256, ht⟩ ⟨(b.val * 4096 + s.val) % 256, by omega⟩ = s :=
    Fin.ext (by show (b.val * 4096 + s.val) / 256 % 16 * 256 + (b.val * 4096 + s.val) % 256 = s.val; omega)
  have he := arr_block m c ⟨(b.val * 4096 + s.val) / 256, ht⟩ ⟨(b.val * 4096 + s.val) % 256, by omega⟩ l hr
  rw [hR, hs, hp] at he
  exact he

end Cert.MixValue

end
-- ==== Proof.MixCumsum.lean ====
module

public import proofs.«01_k».proof.Proof.MixSpec
public import proofs.«01_k».proof.Proof.Finite

@[expose] public section

noncomputable section

/-! A column's running sums, and the sums of its last rows as their differences. -/

namespace Cert.MixCumsum

open Cert.Rows Cert.MixSpec Idealize.ShloMosaic

/-- A column's row by number, around the end. -/
def nth (f : Fin 4096 → EReal) (n : ℕ) : EReal := f ⟨n % 4096, Nat.mod_lt _ (by decide)⟩

/-- The sum of a column's rows up to row `s`. -/
def runSum (f : Fin 4096 → EReal) (s : ℕ) : EReal := ∑ j ∈ Finset.range (s + 1), nth f j

theorem pastSum_eq (w : ℕ) (f : Fin 4096 → EReal) (s : Fin 4096) :
    pastSum w f s = ∑ i ∈ Finset.range w, if i ≤ s.val then nth f (s.val - i) else 0 := by
  unfold pastSum
  rw [← Fin.sum_univ_eq_sum_range (fun i => if i ≤ s.val then nth f (s.val - i) else 0) w]
  refine Finset.sum_congr rfl fun i _ => ?_
  have e : nth f (s.val - i.val) = f ⟨s.val - i.val, by omega⟩ :=
    congrArg f (Fin.ext (Nat.mod_eq_of_lt (by omega)))
  rw [e]

theorem split (F : ℕ → EReal) (s : ℕ) : ∀ w : ℕ, ∑ j ∈ Finset.range (s + 1), F j
    = (∑ i ∈ Finset.range w, if i ≤ s then F (s - i) else 0) + ∑ j ∈ Finset.range (s + 1 - w), F j
  | 0 => by simp
  | w + 1 => by
    rw [split F s w, Finset.sum_range_succ, add_assoc]
    congr 1
    by_cases h : w ≤ s
    · rw [if_pos h, show s + 1 - w = (s - w) + 1 by omega, show s + 1 - (w + 1) = s - w by omega, Finset.sum_range_succ, add_comm]
    · rw [if_neg h, show s + 1 - w = 0 by omega, show s + 1 - (w + 1) = 0 by omega, zero_add]

theorem runSum_real (f : Fin 4096 → EReal) (hf : ∀ s, IsReal (f s)) (s : ℕ) : IsReal (runSum f s) :=
  isReal_sum _ _ fun _ _ => hf _

/-- The sum of the last `w` rows is the running sum less the running sum `w` rows before. -/
theorem sub_runSum (w : ℕ) (f : Fin 4096 → EReal) (hf : ∀ s, IsReal (f s)) (s : Fin 4096) :
    runSum f s.val - (if w ≤ s.val then runSum f (s.val - w) else 0) = pastSum w f s := by
  have hs : runSum f s.val = pastSum w f s + (if w ≤ s.val then runSum f (s.val - w) else 0) := by
    rw [pastSum_eq]
    refine (split (nth f) s.val w).trans (congrArg _ ?_)
    by_cases h : w ≤ s.val
    · rw [if_pos h, show s.val + 1 - w = (s.val - w) + 1 by omega]
      rfl
    · rw [if_neg h, show s.val + 1 - w = 0 by omega]
      rfl
  have hr : IsReal (if w ≤ s.val then runSum f (s.val - w) else 0) := by
    split
    · exact runSum_real f hf _
    · exact isReal_zero
  rw [hs]
  obtain ⟨y, hy⟩ := hr
  rw [hy]
  exact EReal.add_sub_cancel_right

/-- The rows of a whole column's window that ends at row `s` are those up to `s`. -/
theorem window_sum (f : Fin 4096 → EReal) (s : Fin 4096) :
    (∑ n : Fin 4096, if 4095 ≤ s.val + n.val then nth f (s.val + n.val - 4095) else 0) = runSum f s.val := by
  rw [Fin.sum_univ_eq_sum_range (fun n => if 4095 ≤ s.val + n then nth f (s.val + n - 4095) else 0) 4096, ← Finset.sum_range_reflect]
  unfold runSum
  rw [split (nth f) s.val 4096, show s.val + 1 - 4096 = 0 by omega, Finset.sum_range_zero, add_zero]
  refine Finset.sum_congr rfl fun i hi => ?_
  have hi' : i < 4096 := Finset.mem_range.mp hi
  by_cases h : i ≤ s.val
  · rw [if_pos h, if_pos (by omega), show s.val + (4096 - 1 - i) - 4095 = s.val - i by omega]
  · rw [if_neg h, if_neg (by omega)]

/-- The window's positions, by row. -/
def rowsOf : (⟨3, ![1, 4096, 1]⟩ : Shape).Idx ≃ Fin 4096 where
  toFun w := w 1
  invFun n := ix3 0 n 0
  left_inv w := by
    funext a
    match a with
    | ⟨0, _⟩ => exact Subsingleton.elim (α := Fin 1) _ _
    | ⟨1, _⟩ => rfl
    | ⟨2, _⟩ => exact Subsingleton.elim (α := Fin 1) _ _
  right_inv n := rfl

/-- A window's sum, as a sum over the window's positions. -/
theorem reduceWindow_sum {s t : Shape} (window strides lo hi : Fin s.rank → ℕ) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a then
            x (fun a => ⟨(j (a.cast h.1.symm)).val * strides a + (w a).val - lo a, (hin a).2⟩) else 0 := by
  unfold Ideal.hostReduceWindowAdd Host.reduceWindow
  refine Eq.trans ?_ (sum_idx_eq_foldl (⟨s.rank, window⟩ : Shape) fun w =>
    if hin : ∀ a, lo a ≤ (j (a.cast h.1.symm)).val * strides a + (w a).val ∧ (j (a.cast h.1.symm)).val * strides a + (w a).val - lo a < s.size a then
      x (fun a => ⟨(j (a.cast h.1.symm)).val * strides a + (w a).val - lo a, (hin a).2⟩) else 0).symm
  dsimp only
  congr 1
  funext r n
  congr 1
  split
  · rfl
  · rfl

theorem reduceWindow_apply (x : (⟨3, ![4, 4096, 1024]⟩ : Shape).Idx → EReal)
    (h : (⟨3, ![4, 4096, 1024]⟩ : Shape).ReduceWindows ![1, 4096, 1] ![1, 1, 1] ![0, 4095, 0] ![0, 0, 0] (⟨3, ![4, 4096, 1024]⟩ : Shape))
    (b : Fin 4) (s : Fin 4096) (l : Fin 1024) :
    Ideal.hostReduceWindowAdd ![1, 4096, 1] ![1, 1, 1] ![0, 4095, 0] ![0, 0, 0] h x 0 (ix3 b s l) = runSum (fun s => x (ix3 b s l)) s.val := by
  rw [← window_sum, reduceWindow_sum]
  refine Fintype.sum_equiv rowsOf _ _ fun w => ?_
  obtain ⟨n, rfl⟩ : ∃ n : Fin 4096, w = ix3 0 n 0 := ⟨rowsOf w, (rowsOf.left_inv w).symm⟩
  have hr : rowsOf (ix3 0 n 0) = n := rfl
  rw [hr]
  by_cases hn : 4095 ≤ s.val + n.val
  · rw [if_pos hn, dif_pos]
    · unfold nth
      refine congrArg x (funext fun a => Fin.ext ?_)
      match a with
      | ⟨0, _⟩ => show b.val * 1 + 0 - 0 = b.val; omega
      | ⟨1, _⟩ => show s.val * 1 + n.val - 4095 = (s.val + n.val - 4095) % 4096; omega
      | ⟨2, _⟩ => show l.val * 1 + 0 - 0 = l.val; omega
    · intro a
      match a with
      | ⟨0, _⟩ => show 0 ≤ b.val * 1 + 0 ∧ b.val * 1 + 0 - 0 < 4; omega
      | ⟨1, _⟩ => show 4095 ≤ s.val * 1 + n.val ∧ s.val * 1 + n.val - 4095 < 4096; omega
      | ⟨2, _⟩ => show 0 ≤ l.val * 1 + 0 ∧ l.val * 1 + 0 - 0 < 1024; omega
  · rw [if_neg hn, dif_neg]
    intro hin
    have h1 : 4095 ≤ s.val * 1 + n.val ∧ s.val * 1 + n.val - 4095 < 4096 := hin 1
    omega

end Cert.MixCumsum

end
-- ==== Proof.MixRefValue.lean ====
module

public import proofs.«01_k».proof.Proof.MixCumsum
public import proofs.«01_k».proof.Proof.Gen.MixRefIdeal.Read

@[expose] public section

set_option maxRecDepth 16384

noncomputable section

namespace Cert.MixRefValue

open Cert.MixRefIdeal Cert.MixRefIdeal.Gen Cert.MixRefIdeal.Read Cert.Rows Cert.MixRows Cert.MixPay Cert.MixSpec Cert.MixCumsum Idealize.ShloMosaic

variable (x0 : (⟨S4x4096x2048, .f32⟩ : BufTy).Contents (Elt Ideal)) (x1 : (⟨S1x2048, .f32⟩ : BufTy).Contents (Elt Ideal))
  (x2 : (⟨S1x2048x3072, .f32⟩ : BufTy).Contents (Elt Ideal)) (x3 : (⟨S1x4x256x256, .f32⟩ : BufTy).Contents (Elt Ideal))
  (x4 x5 : (⟨S1x1024, .f32⟩ : BufTy).Contents (Elt Ideal)) (x6 : (⟨S1x8x128x128, .f32⟩ : BufTy).Contents (Elt Ideal))
  (x7 : (⟨S1x8x128, .f32⟩ : BufTy).Contents (Elt Ideal)) (x8 : (⟨S1x2048x2048, .f32⟩ : BufTy).Contents (Elt Ideal))

/-- The reference's projected columns. -/
theorem v15_apply (b : Fin 4) (s : Fin 4096) (f : Fin 3072) :
    val_main_v15 x0 x1 x2 (ix3 b s f) = vecMat (rms width (fun j => x0 (ix3 b s j)) (fun j => x1 (ix2 0 j)))
      (fun (k : Fin 2048) f => x2 (ix3 0 k f)) f := by
  pointwise [val_main_v15, val_main_v14, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]
  rfl

/-- The columns of each third. -/
theorem v16_apply (b : Fin 4) (s : Fin 4096) (l : Fin 1024) : val_main_v16 x0 x1 x2 (ix3 b s l) = val_main_v15 x0 x1 x2 (ix3 b s (lane 0 l)) := by
  unfold val_main_v16
  generalize val_main_v15 x0 x1 x2 = q
  pointwise
  exact congrArg q (congrArg (ix3 b s) (Fin.ext (by show _ = 0 * 1024 + l.val; dsimp only; omega)))

theorem v80_apply (b : Fin 4) (s : Fin 4096) (l : Fin 1024) : val_main_v80 x0 x1 x2 (ix3 b s l) = val_main_v15 x0 x1 x2 (ix3 b s (lane 1 l)) := by
  unfold val_main_v80 val_main_v76
  generalize val_main_v15 x0 x1 x2 = q
  pointwise
  exact congrArg q (congrArg (ix3 b s) (Fin.ext (by show _ = 1 * 1024 + l.val; dsimp only)))

theorem v81_apply (b : Fin 4) (s : Fin 4096) (l : Fin 1024) : val_main_v81 x0 x1 x2 (ix3 b s l) = val_main_v15 x0 x1 x2 (ix3 b s (lane 2 l)) := by
  unfold val_main_v81 val_main_v76
  generalize val_main_v15 x0 x1 x2 = q
  pointwise
  exact congrArg q (congrArg (ix3 b s) (Fin.ext (by show _ = 2 * 1024 + l.val; dsimp only; omega)))

theorem init_zero : val_main_call0_call0_v0 (F := Ideal) (Shape.Idx.first h_S_) = 0 := by
  pointwise [val_main_call0_call0_v0, val_main_call0_call0_cst]

theorem v19_apply (b : Fin 4) (s : Fin 4096) (l : Fin 1024) :
    val_main_v19 x0 x1 x2 (ix3 b s l) = runSum (fun s => val_main_v16 x0 x1 x2 (ix3 b s l)) s.val := by
  unfold val_main_v19
  generalize val_main_v16 x0 x1 x2 = q
  have hz := init_zero
  revert hz
  generalize val_main_call0_call0_v0 (F := Ideal) = z
  intro hz
  unfold Host.reduceWindowAdd
  rw [Ideal.hostReduceWindowAdd_def, hz]
  exact reduceWindow_apply q _ b s l

theorem v24_apply (s : Fin 4096) : val_main_v24 (F := Ideal) (ix3 0 s 0) = Cert.MixSpec.count s := by
  pointwise [val_main_v24, val_main_v23, val_main_v22, val_main_v21, val_main_v20, val_main_c]
  show (((1#32 + BitVec.ofNat 32 s.val).toInt : ℝ) : EReal) = _
  have e : 1#32 + BitVec.ofNat 32 s.val = BitVec.ofNat 32 (s.val + 1) := by
    apply BitVec.eq_of_toNat_eq
    simp only [BitVec.toNat_add, BitVec.toNat_ofNat]
    omega
  have hi : (BitVec.ofNat 32 (s.val + 1)).toInt = ((s.val + 1 : ℕ) : ℤ) := by
    rw [BitVec.toInt_eq_toNat_cond, BitVec.toNat_ofNat]
    have hm : (s.val + 1) % 2 ^ 32 = s.val + 1 := Nat.mod_eq_of_lt (by omega)
    rw [hm, if_pos (by omega)]
  rw [e, hi]
  unfold Cert.MixSpec.count
  congr 1
  rw [Int.cast_natCast, Nat.cast_succ]

/-- A pooled group before its matrix, from the running sums `q` and the rows `a`: the mean of a window less the row. -/
def lessMean (q a : (⟨S4x4096x1024, .f32⟩ : BufTy).Contents (Elt Ideal)) (n : EReal) (w : ℕ) (wf : EReal) (b : Fin 4) (s : Fin 4096) (l : Fin 1024) : EReal :=
  Ideal.div ((q (ix3 b s l) : EReal) - (if w ≤ s.val then (q (ix3 b ⟨s.val - w, by omega⟩ l) : EReal) else 0)) (min n wf) - (a (ix3 b s l) : EReal)

theorem v34_apply (b : Fin 4) (s : Fin 4096) (l : Fin 256) :
    val_main_v34 x0 x1 x2 (ix3 b s l) = lessMean (val_main_v19 x0 x1 x2) (val_main_v16 x0 x1 x2) (val_main_v24 (F := Ideal) (ix3 0 s 0)) 2 (winF 0) b s (gcol 0 l) := by
  unfold val_main_v34 val_main_v33 val_main_v32 val_main_v31 val_main_v30 val_main_v28 val_main_v27 val_main_v26 val_main_v25 lessMean
  generalize val_main_v19 x0 x1 x2 = q
  generalize val_main_v16 x0 x1 x2 = a
  generalize val_main_v24 (F := Ideal) = p
  have e : gcol 0 l = ⟨0 + l.val, by omega⟩ := Fin.ext (by show 0 * 256 + l.val = 0 + l.val; omega)
  rw [e]
  pointwise [val_main_v29, val_main_cst_3, val_main_cst_2]
  by_cases h : 2 ≤ s.val
  · rw [dif_pos ⟨h, by omega⟩, if_pos h]
    rfl
  · rw [dif_neg (fun h' => h h'.1), if_neg h]
    rfl

theorem v44_apply (b : Fin 4) (s : Fin 4096) (l : Fin 256) :
    val_main_v44 x0 x1 x2 (ix3 b s l) = lessMean (val_main_v19 x0 x1 x2) (val_main_v16 x0 x1 x2) (val_main_v24 (F := Ideal) (ix3 0 s 0)) 4 (winF 1) b s (gcol 1 l) := by
  unfold val_main_v44 val_main_v43 val_main_v42 val_main_v41 val_main_v40 val_main_v38 val_main_v37 val_main_v36 val_main_v35 lessMean
  generalize val_main_v19 x0 x1 x2 = q
  generalize val_main_v16 x0 x1 x2 = a
  generalize val_main_v24 (F := Ideal) = p
  have e : gcol 1 l = ⟨256 + l.val, by omega⟩ := Fin.ext (by show 1 * 256 + l.val = 256 + l.val; omega)
  rw [e]
  pointwise [val_main_v39, val_main_cst_5, val_main_cst_4]
  by_cases h : 4 ≤ s.val
  · rw [dif_pos ⟨h, by omega⟩, if_pos h]
    rfl
  · rw [dif_neg (fun h' => h h'.1), if_neg h]
    rfl

theorem v54_apply (b : Fin 4) (s : Fin 4096) (l : Fin 256) :
    val_main_v54 x0 x1 x2 (ix3 b s l) = lessMean (val_main_v19 x0 x1 x2) (val_main_v16 x0 x1 x2) (val_main_v24 (F := Ideal) (ix3 0 s 0)) 8 (winF 2) b s (gcol 2 l) := by
  unfold val_main_v54 val_main_v53 val_main_v52 val_main_v51 val_main_v50 val_main_v48 val_main_v47 val_main_v46 val_main_v45 lessMean
  generalize val_main_v19 x0 x1 x2 = q
  generalize val_main_v16 x0 x1 x2 = a
  generalize val_main_v24 (F := Ideal) = p
  have e : gcol 2 l = ⟨512 + l.val, by omega⟩ := Fin.ext (by show 2 * 256 + l.val = 512 + l.val; omega)
  rw [e]
  pointwise [val_main_v49, val_main_cst_7, val_main_cst_6]
  by_cases h : 8 ≤ s.val
  · rw [dif_pos ⟨h, by omega⟩, if_pos h]
    rfl
  · rw [dif_neg (fun h' => h h'.1), if_neg h]
    rfl

theorem v64_apply (b : Fin 4) (s : Fin 4096) (l : Fin 256) :
    val_main_v64 x0 x1 x2 (ix3 b s l) = lessMean (val_main_v19 x0 x1 x2) (val_main_v16 x0 x1 x2) (val_main_v24 (F := Ideal) (ix3 0 s 0)) 16 (winF 3) b s (gcol 3 l) := by
  unfold val_main_v64 val_main_v63 val_main_v62 val_main_v61 val_main_v60 val_main_v58 val_main_v57 val_main_v56 val_main_v55 lessMean
  generalize val_main_v19 x0 x1 x2 = q
  generalize val_main_v16 x0 x1 x2 = a
  generalize val_main_v24 (F := Ideal) = p
  have e : gcol 3 l = ⟨768 + l.val, by omega⟩ := Fin.ext (by show 3 * 256 + l.val = 768 + l.val; omega)
  rw [e]
  pointwise [val_main_v59, val_main_cst_9, val_main_cst_8]
  by_cases h : 16 ≤ s.val
  · rw [dif_pos ⟨h, by omega⟩, if_pos h]
    rfl
  · rw [dif_neg (fun h' => h h'.1), if_neg h]
    rfl

end Cert.MixRefValue

end
-- ==== Proof.MixRefPool.lean ====
module

public import proofs.«01_k».proof.Proof.MixRefValue
public import Idealize.ShloMosaic.Lib.IdealHost

@[expose] public section

set_option maxRecDepth 16384

noncomputable section

namespace Cert.MixRefPool

open Cert.MixRefValue Cert.MixRefIdeal Cert.MixRefIdeal.Gen Cert.MixRefIdeal.Read Cert.Rows Cert.MixRows Cert.MixPay Cert.MixSpec Cert.MixCumsum Idealize.ShloMosaic

variable (x0 : (⟨S4x4096x2048, .f32⟩ : BufTy).Contents (Elt Ideal)) (x1 : (⟨S1x2048, .f32⟩ : BufTy).Contents (Elt Ideal))
  (x2 : (⟨S1x2048x3072, .f32⟩ : BufTy).Contents (Elt Ideal)) (x3 : (⟨S1x4x256x256, .f32⟩ : BufTy).Contents (Elt Ideal))
  (x4 x5 : (⟨S1x1024, .f32⟩ : BufTy).Contents (Elt Ideal)) (x6 : (⟨S1x8x128x128, .f32⟩ : BufTy).Contents (Elt Ideal))
  (x7 : (⟨S1x8x128, .f32⟩ : BufTy).Contents (Elt Ideal)) (x8 : (⟨S1x2048x2048, .f32⟩ : BufTy).Contents (Elt Ideal))

theorem v75_apply (b : Fin 4) (s : Fin 4096) (k : Fin 4) (l : Fin 256) :
    (val_main_v75 x0 x1 x2 x3 x4 (ix3 b s (gcol k l)) : EReal)
      = (∑ c : Fin 256, (x3 (ix4 0 k c l) : EReal) * (val_main_v69 x0 x1 x2 (ix4 b s k c) : EReal)) * (x4 (ix2 0 (gcol k l)) : EReal) := by
  unfold val_main_v75 val_main_v74 val_main_v73 val_main_v72 val_main_v71 val_main_v70 val_main_v18 val_main_v17
  generalize val_main_v69 x0 x1 x2 = q
  have hk : (gcol k l).val / 256 = k.val := by show (k.val * 256 + l.val) / 256 = k.val; omega
  have hl : (gcol k l).val % 256 = l.val := by show (k.val * 256 + l.val) % 256 = l.val; omega
  pointwise
  simp only [hk, hl, Fin.eta]

theorem v69_0 (b : Fin 4) (s : Fin 4096) (l : Fin 256) : val_main_v69 x0 x1 x2 (ix4 b s 0 l) = val_main_v34 x0 x1 x2 (ix3 b s l) := by
  unfold val_main_v69 val_main_v65 val_main_v66 val_main_v67 val_main_v68
  generalize val_main_v34 x0 x1 x2 = q0
  generalize val_main_v44 x0 x1 x2 = q1
  generalize val_main_v54 x0 x1 x2 = q2
  generalize val_main_v64 x0 x1 x2 = q3
  pointwise

theorem v69_1 (b : Fin 4) (s : Fin 4096) (l : Fin 256) : val_main_v69 x0 x1 x2 (ix4 b s 1 l) = val_main_v44 x0 x1 x2 (ix3 b s l) := by
  unfold val_main_v69 val_main_v65 val_main_v66 val_main_v67 val_main_v68
  generalize val_main_v34 x0 x1 x2 = q0
  generalize val_main_v44 x0 x1 x2 = q1
  generalize val_main_v54 x0 x1 x2 = q2
  generalize val_main_v64 x0 x1 x2 = q3
  pointwise

theorem v69_2 (b : Fin 4) (s : Fin 4096) (l : Fin 256) : val_main_v69 x0 x1 x2 (ix4 b s 2 l) = val_main_v54 x0 x1 x2 (ix3 b s l) := by
  unfold val_main_v69 val_main_v65 val_main_v66 val_main_v67 val_main_v68
  generalize val_main_v34 x0 x1 x2 = q0
  generalize val_main_v44 x0 x1 x2 = q1
  generalize val_main_v54 x0 x1 x2 = q2
  generalize val_main_v64 x0 x1 x2 = q3
  pointwise

theorem v69_3 (b : Fin 4) (s : Fin 4096) (l : Fin 256) : val_main_v69 x0 x1 x2 (ix4 b s 3 l) = val_main_v64 x0 x1 x2 (ix3 b s l) := by
  unfold val_main_v69 val_main_v65 val_main_v66 val_main_v67 val_main_v68
  generalize val_main_v34 x0 x1 x2 = q0
  generalize val_main_v44 x0 x1 x2 = q1
  generalize val_main_v54 x0 x1 x2 = q2
  generalize val_main_v64 x0 x1 x2 = q3
  pointwise

/-- The pooled groups side by side. -/
theorem v69_apply (b : Fin 4) (s : Fin 4096) (k : Fin 4) (l : Fin 256) :
    val_main_v69 x0 x1 x2 (ix4 b s k l)
      = lessMean (val_main_v19 x0 x1 x2) (val_main_v16 x0 x1 x2) (Cert.MixSpec.count s) (win k) (winF k) b s (gcol k l) := by
  rw [← v24_apply]
  match k with
  | 0 => exact (v69_0 x0 x1 x2 b s l).trans (v34_apply x0 x1 x2 b s l)
  | 1 => exact (v69_1 x0 x1 x2 b s l).trans (v44_apply x0 x1 x2 b s l)
  | 2 => exact (v69_2 x0 x1 x2 b s l).trans (v54_apply x0 x1 x2 b s l)
  | 3 => exact (v69_3 x0 x1 x2 b s l).trans (v64_apply x0 x1 x2 b s l)

theorem count_pos (s : Fin 4096) : 0 < Cert.MixSpec.count s := by
  unfold Cert.MixSpec.count
  exact EReal.coe_pos.mpr (by positivity)

theorem winF_pos (k : Fin 4) : 0 < winF k := by
  match k with
  | 0 => show 0 < Ideal.ofBits .f32 0x40000000#32; simp [Ideal.ofBits, Ideal.ieee, -EReal.coe_mul]
  | 1 => show 0 < Ideal.ofBits .f32 0x40800000#32; simp [Ideal.ofBits, Ideal.ieee, -EReal.coe_mul]
  | 2 => show 0 < Ideal.ofBits .f32 0x41000000#32; simp [Ideal.ofBits, Ideal.ieee, -EReal.coe_mul]
  | 3 => show 0 < Ideal.ofBits .f32 0x41800000#32; simp [Ideal.ofBits, Ideal.ieee, -EReal.coe_mul]

/-- Over real rows, a difference of running sums is a window's sum, and a quotient a product with the reciprocal. -/
theorem lessMean_eq (A : Fin 4096 → Fin 1024 → EReal) (q a : (⟨S4x4096x1024, .f32⟩ : BufTy).Contents (Elt Ideal)) (b : Fin 4)
    (ha : ∀ s l, a (ix3 b s l) = A s l) (hq : ∀ s l, q (ix3 b s l) = runSum (fun s => A s l) s.val) (hA : ∀ s l, IsReal (A s l))
    (s : Fin 4096) (k : Fin 4) (l : Fin 1024) :
    lessMean q a (Cert.MixSpec.count s) (win k) (winF k) b s l
      = pastSum (win k) (fun s => A s l) s * Ideal.div one (min (Cert.MixSpec.count s) (winF k)) - A s l := by
  have hn : min (Cert.MixSpec.count s) (winF k) ≠ 0 := (lt_min (count_pos s) (winF_pos k)).ne'
  unfold lessMean
  rw [ha, hq, hq, sub_runSum (win k) (fun s => A s l) (fun s => hA s l) s, show one = 1 from Ideal.ofBits_one_f32, Ideal.mul_one_div hn]

/-- The reference's pooled columns over real rows. -/
theorem pool_apply (b : Fin 4) (A : Fin 4096 → Fin 1024 → EReal) (ha : ∀ s l, val_main_v16 x0 x1 x2 (ix3 b s l) = A s l) (hA : ∀ s l, IsReal (A s l))
    (s : Fin 4096) (k : Fin 4) (l : Fin 256) :
    (val_main_v75 x0 x1 x2 x3 x4 (ix3 b s (gcol k l)) : EReal)
      = poolRow A (fun k p l => x3 (ix4 0 k p l)) (fun l => x4 (ix2 0 l)) s k l := by
  rw [v75_apply]
  unfold poolRow poolVal
  refine congrArg₂ (fun a b : EReal => a * b) (Finset.sum_congr rfl fun c _ => ?_) rfl
  rw [mul_comm, v69_apply, lessMean_eq A _ _ b ha (fun s l => ?_) hA]
  rw [v19_apply]
  simp only [ha]

end Cert.MixRefPool

end
-- ==== Proof.MixRefGate.lean ====
module

public import proofs.«01_k».proof.Proof.MixRefValue

@[expose] public section

set_option maxRecDepth 16384

noncomputable section

namespace Cert.MixRefGate

open Cert.MixRefValue Cert.MixRefIdeal Cert.MixRefIdeal.Gen Cert.MixRefIdeal.Read Cert.Rows Cert.MixRows Cert.MixPay Cert.MixSpec Cert.MixCumsum Idealize.ShloMosaic

variable (x0 : (⟨S4x4096x2048, .f32⟩ : BufTy).Contents (Elt Ideal)) (x1 : (⟨S1x2048, .f32⟩ : BufTy).Contents (Elt Ideal))
  (x2 : (⟨S1x2048x3072, .f32⟩ : BufTy).Contents (Elt Ideal)) (x3 : (⟨S1x4x256x256, .f32⟩ : BufTy).Contents (Elt Ideal))
  (x4 x5 : (⟨S1x1024, .f32⟩ : BufTy).Contents (Elt Ideal)) (x6 : (⟨S1x8x128x128, .f32⟩ : BufTy).Contents (Elt Ideal))
  (x7 : (⟨S1x8x128, .f32⟩ : BufTy).Contents (Elt Ideal)) (x8 : (⟨S1x2048x2048, .f32⟩ : BufTy).Contents (Elt Ideal))

/-- The mask's bit: blocks of 64 places see themselves and the blocks before. -/
theorem mask_apply (t q : Fin 128) (h : Fin 8) : val_main_call1_v1 (F := Ideal) (ix3 h t q) = if q.val / 64 ≤ t.val / 64 then 1#1 else 0#1 := by
  pointwise [val_main_call1_v1, val_main_v104, val_main_v103, val_main_v102, val_main_v101, val_main_v100, val_main_v99, val_main_v98, val_main_v97, val_main_v96, val_main_c_13]
  have e : ∀ n : Fin 128, IntOp.divsi ArithUnit.host (BitVec.ofNat 32 n.val) 64#32 = BitVec.ofNat 32 (n.val / 64) := by decide
  rw [e, e]
  have hq : q.val / 64 = 0 ∨ q.val / 64 = 1 := by omega
  have ht : t.val / 64 = 0 ∨ t.val / 64 = 1 := by omega
  rcases hq with hq | hq <;> rcases ht with ht | ht <;> rw [hq, ht] <;> decide

theorem v105_apply (h : Fin 8) (t q : Fin 128) :
    (val_main_v105 x6 (ix3 h t q) : EReal) = if q.val / 64 ≤ t.val / 64 then (x6 (ix4 0 h t q) : EReal) else 0 := by
  unfold val_main_v105
  have hm := mask_apply t q h
  revert hm
  generalize val_main_call1_v1 (F := Ideal) = mk
  intro hm
  pointwise [val_main_v78, val_main_call1_v2, val_main_call1_v0, val_main_cst_14]
  have hz : (id (constant (F := Ideal) S_ FTy.f32 0#32) ix0 : EReal) = 0 := by
    show (constant (F := Ideal) S_ FTy.f32 0#32) ix0 = 0
    pointwise
  rw [hm, hz]
  by_cases hqt : q.val / 64 ≤ t.val / 64
  · rw [if_pos hqt, if_pos hqt]; rfl
  · rw [if_neg hqt, if_neg hqt]; rfl

theorem v94_apply (b : Fin 4) (s : Fin 4096) (l : Fin 1024) :
    val_main_v94 x0 x1 x2 x5 (ix3 b s l) = rms halfWidth (fun j => val_main_v81 x0 x1 x2 (ix3 b s j)) (fun j => x5 (ix2 0 j)) l := by
  unfold val_main_v94 val_main_v93 val_main_v92 val_main_v91 val_main_v90 val_main_v89 val_main_v88 val_main_v86 val_main_v84 val_main_v83 val_main_v82 val_main_v77
  generalize val_main_v81 x0 x1 x2 = q
  pointwise [val_main_v87, val_main_cst_12, val_main_v85, val_main_cst_11, val_main_cst_10]
  rfl

theorem v113_apply (b : Fin 4) (s : Fin 4096) (h : Fin 8) (l : Fin 128) :
    (val_main_v113 x0 x1 x2 x5 x6 x7 (ix3 b s (hcol h l)) : EReal)
      = (val_main_v80 x0 x1 x2 (ix3 b s (hcol h l)) : EReal) * ((∑ q : Fin 128, (val_main_v94 x0 x1 x2 x5 (ix3 b (inBlock s q) (hcol h l)) : EReal)
          * (val_main_v105 x6 (ix3 h (Cert.MixSpec.place s) q) : EReal)) + (x7 (ix3 0 h (Cert.MixSpec.place s)) : EReal)) := by
  unfold val_main_v113 val_main_v112 val_main_v111 val_main_v110 val_main_v109 val_main_v108 val_main_v107 val_main_v106 val_main_v95 val_main_v79
  generalize val_main_v105 x6 = w
  generalize val_main_v94 x0 x1 x2 x5 = q
  generalize val_main_v80 x0 x1 x2 = u
  have hh : (hcol h l).val / 128 = h.val := by show (h.val * 128 + l.val) / 128 = h.val; omega
  pointwise
  simp only [hh, Fin.eta]
  rfl

/-- The reference's gated columns. -/
theorem gate_apply (b : Fin 4) (U V : Fin 4096 → Fin 1024 → EReal) (hU : ∀ s l, val_main_v80 x0 x1 x2 (ix3 b s l) = U s l)
    (hV : ∀ s l, val_main_v81 x0 x1 x2 (ix3 b s l) = V s l) (s : Fin 4096) (h : Fin 8) (l : Fin 128) :
    (val_main_v113 x0 x1 x2 x5 x6 x7 (ix3 b s (hcol h l)) : EReal)
      = gateRow U V (fun l => x5 (ix2 0 l)) (fun h p s => x6 (ix4 0 h p s)) (fun h p => x7 (ix3 0 h p)) s h l := by
  rw [v113_apply]
  unfold gateRow gate
  refine congrArg₂ (fun a b : EReal => a * b) (hU s _) (congrArg₂ (fun a b : EReal => a + b) (Finset.sum_congr rfl fun q _ => ?_) rfl)
  rw [mul_comm, v105_apply, v94_apply]
  simp only [hV]

end Cert.MixRefGate

end
-- ==== Proof.MixRefOut.lean ====
module

public import proofs.«01_k».proof.Proof.MixRefPool
public import proofs.«01_k».proof.Proof.MixRefGate

@[expose] public section

set_option maxRecDepth 16384

noncomputable section

namespace Cert.MixRefOut

open Cert.MixRefValue Cert.MixRefPool Cert.MixRefGate Cert.MixRefIdeal Cert.MixRefIdeal.Gen Cert.MixRefIdeal.Read Cert.Rows Cert.MixRows Cert.MixPay Cert.MixSpec Cert.MixCumsum Idealize.ShloMosaic

variable (x0 : (⟨S4x4096x2048, .f32⟩ : BufTy).Contents (Elt Ideal)) (x1 : (⟨S1x2048, .f32⟩ : BufTy).Contents (Elt Ideal))
  (x2 : (⟨S1x2048x3072, .f32⟩ : BufTy).Contents (Elt Ideal)) (x3 : (⟨S1x4x256x256, .f32⟩ : BufTy).Contents (Elt Ideal))
  (x4 x5 : (⟨S1x1024, .f32⟩ : BufTy).Contents (Elt Ideal)) (x6 : (⟨S1x8x128x128, .f32⟩ : BufTy).Contents (Elt Ideal))
  (x7 : (⟨S1x8x128, .f32⟩ : BufTy).Contents (Elt Ideal)) (x8 : (⟨S1x2048x2048, .f32⟩ : BufTy).Contents (Elt Ideal))

theorem v118_apply (b : Fin 4) (s : Fin 4096) (l : Fin 2048) :
    (val_main_v118 x0 x1 x2 x3 x4 x5 x6 x7 x8 (ix2 ⟨b.val * 4096 + s.val, by omega⟩ l) : EReal)
      = (x0 (ix3 b s l) : EReal) + vecMat (fun k => val_main_v114 x0 x1 x2 x3 x4 x5 x6 x7 (ix3 b s k)) (fun k l => x8 (ix3 0 k l)) l := by
  unfold val_main_v118 val_main_v117 val_main_v116 val_main_v115
  generalize val_main_v114 x0 x1 x2 x3 x4 x5 x6 x7 = q
  pointwise
  rfl

theorem v114_lo (b : Fin 4) (s : Fin 4096) (l : Fin 1024) :
    val_main_v114 x0 x1 x2 x3 x4 x5 x6 x7 (ix3 b s ⟨l.val, by omega⟩) = val_main_v75 x0 x1 x2 x3 x4 (ix3 b s l) := by
  unfold val_main_v114
  generalize val_main_v75 x0 x1 x2 x3 x4 = p
  generalize val_main_v113 x0 x1 x2 x5 x6 x7 = q
  pointwise

theorem v114_hi (b : Fin 4) (s : Fin 4096) (l : Fin 1024) :
    val_main_v114 x0 x1 x2 x3 x4 x5 x6 x7 (ix3 b s ⟨1024 + l.val, by omega⟩) = val_main_v113 x0 x1 x2 x5 x6 x7 (ix3 b s l) := by
  unfold val_main_v114
  generalize val_main_v75 x0 x1 x2 x3 x4 = p
  generalize val_main_v113 x0 x1 x2 x5 x6 x7 = q
  pointwise

/-- The reference's mixed columns, where the pooled third is real. -/
theorem v114_apply (b : Fin 4) (A U V : Fin 4096 → Fin 1024 → EReal) (ha : ∀ s l, val_main_v16 x0 x1 x2 (ix3 b s l) = A s l)
    (hU : ∀ s l, val_main_v80 x0 x1 x2 (ix3 b s l) = U s l) (hV : ∀ s l, val_main_v81 x0 x1 x2 (ix3 b s l) = V s l)
    (hA : ∀ s l, IsReal (A s l)) (s : Fin 4096) (k : Fin 2048) :
    (val_main_v114 x0 x1 x2 x3 x4 x5 x6 x7 (ix3 b s k) : EReal)
      = mixRow A U V (fun k p l => x3 (ix4 0 k p l)) (fun l => x4 (ix2 0 l)) (fun l => x5 (ix2 0 l)) (fun h p s => x6 (ix4 0 h p s))
          (fun h p => x7 (ix3 0 h p)) s k := by
  unfold mixRow
  by_cases hk : k.val < 1024
  · rw [if_pos hk, ← pool_apply x0 x1 x2 x3 x4 b A ha hA]
    refine (v114_lo x0 x1 x2 x3 x4 x5 x6 x7 b s ⟨k.val, hk⟩).trans (congrArg (fun l => val_main_v75 x0 x1 x2 x3 x4 (ix3 b s l)) (Fin.ext ?_))
    show k.val = k.val / 256 % 4 * 256 + k.val % 256
    omega
  · rw [if_neg hk, ← gate_apply x0 x1 x2 x5 x6 x7 b U V hU hV]
    have e : k = ⟨1024 + (k.val - 1024), by omega⟩ := Fin.ext (by show k.val = 1024 + (k.val - 1024); omega)
    refine (congrArg (fun k => val_main_v114 x0 x1 x2 x3 x4 x5 x6 x7 (ix3 b s k)) e).trans ?_
    refine (v114_hi x0 x1 x2 x3 x4 x5 x6 x7 b s ⟨k.val - 1024, by omega⟩).trans
      (congrArg (fun l => val_main_v113 x0 x1 x2 x5 x6 x7 (ix3 b s l)) (Fin.ext ?_))
    show k.val - 1024 = (k.val - 1024) / 128 % 8 * 128 + (k.val - 1024) % 128
    omega

end Cert.MixRefOut

end
-- ==== Proof.MixClaim.lean ====
module

public import proofs.«01_k».proof.Defs
public import proofs.«01_k».proof.Proof.Gen.Mix.Frame
public import proofs.«01_k».proof.Proof.Finite
public import proofs.«01_k».proof.Proof.MixValue
public import proofs.«01_k».proof.Proof.MixRefOut
public import proofs.«01_k».proof.Proof.Gen.MixIdeal.Value
public import proofs.«01_k».proof.Proof.Gen.MixRefIdeal.Run

@[expose] public section

noncomputable section

/-! The claims about the mixing call. -/

namespace Cert.MixClaim

open Cert.Rows Cert.MixRows Cert.MixPay Cert.MixSpec Idealize.ShloMosaic Idealize.ShloMosaic.TcCoe Idealize.SL.Sem

instance preFacts : Cert.Pre_pool_input_finite.Facts := ⟨by decide, by decide⟩

theorem frame : Cert.quiescent_Mix := fun m ρ _ => Cert.Mix.Gen.frame m ρ

theorem frame_ideal : Cert.quiescent_MixIdeal := fun m ρ _ => Cert.MixIdeal.Gen.frame m ρ

theorem frame_ideal_pre : Cert.quiescent_MixIdeal_pre_pool_input_finite := fun m ρ _ => Cert.MixIdeal.Gen.frame m ρ

theorem frame_ref : Cert.quiescent_MixRefIdeal := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

theorem frame_ref_pre : Cert.quiescent_MixRefIdeal_pre_pool_input_finite := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

theorem preserves : Cert.preserves_Mix_MixIdeal := trivial

/-- Under the precondition the projected columns are real. -/
theorem proj_real {m : (ℓ : Loc Cert.MixIdeal.nD Cert.MixIdeal.τ Cert.MixIdeal.sig) → Buf (Elt Ideal) ℓ} (h : Cert.Pre_MixIdeal_pool_input_finite m)
    (c : Dev Cert.MixIdeal.nD) (q : Fin 3) (b : Fin 4) (s : Fin 4096) (l : Fin 1024) : IsReal (Cert.MixCarry.proj m c q b s l) :=
  isReal_vecMat _ _ _ (fun k => isReal_rms _ _ k (isReal_of_lt (congrFun (h c).1 (ix2 0 k)))) fun k => isReal_of_lt (congrFun (h c).2 (ix3 0 k _))

section Ref

variable (m : (ℓ : Loc Cert.MixIdeal.nD Cert.MixIdeal.τ Cert.MixIdeal.sig) → Buf (Elt Ideal) ℓ) (c : Dev Cert.MixIdeal.nD)

/-- The reference's projected columns, from the same memory as the kernel's. -/
theorem ref_proj (q : Fin 3) (b : Fin 4) (s : Fin 4096) (l : Fin 1024) :
    Cert.MixRefIdeal.Read.val_main_v15 (F := Ideal) (m ((c : Thread Cert.MixIdeal.nD Cert.MixIdeal.τ).loc Cert.MixIdeal.main_arg0))
        (m ((c : Thread Cert.MixIdeal.nD Cert.MixIdeal.τ).loc Cert.MixIdeal.main_arg1)) (m ((c : Thread Cert.MixIdeal.nD Cert.MixIdeal.τ).loc Cert.MixIdeal.main_arg2))
        (ix3 b s (lane q l)) = Cert.MixCarry.proj m c q b s l :=
  Cert.MixRefValue.v15_apply _ _ _ b s (lane q l)

/-- The reference's mixed columns, from the same rows as the kernel's. -/
theorem ref_row (h : Cert.Pre_MixIdeal_pool_input_finite m) (b : Fin 4) (s : Fin 4096) (k : Fin 2048) :
    Cert.MixRefIdeal.Read.val_main_v114 (F := Ideal) (m ((c : Thread Cert.MixIdeal.nD Cert.MixIdeal.τ).loc Cert.MixIdeal.main_arg0))
        (m ((c : Thread Cert.MixIdeal.nD Cert.MixIdeal.τ).loc Cert.MixIdeal.main_arg1)) (m ((c : Thread Cert.MixIdeal.nD Cert.MixIdeal.τ).loc Cert.MixIdeal.main_arg2))
        (m ((c : Thread Cert.MixIdeal.nD Cert.MixIdeal.τ).loc Cert.MixIdeal.main_arg3)) (m ((c : Thread Cert.MixIdeal.nD Cert.MixIdeal.τ).loc Cert.MixIdeal.main_arg4))
        (m ((c : Thread Cert.MixIdeal.nD Cert.MixIdeal.τ).loc Cert.MixIdeal.main_arg5)) (m ((c : Thread Cert.MixIdeal.nD Cert.MixIdeal.τ).loc Cert.MixIdeal.main_arg6))
        (m ((c : Thread Cert.MixIdeal.nD Cert.MixIdeal.τ).loc Cert.MixIdeal.main_arg7)) (ix3 b s k)
      = Cert.MixValue.row m c b s k :=
  Cert.MixRefOut.v114_apply _ _ _ _ _ _ _ _ b (Cert.MixCarry.proj m c 0 b) (Cert.MixCarry.proj m c 1 b) (Cert.MixCarry.proj m c 2 b)
    (fun s l => (Cert.MixRefValue.v16_apply _ _ _ b s l).trans (ref_proj m c 0 b s l))
    (fun s l => (Cert.MixRefValue.v80_apply _ _ _ b s l).trans (ref_proj m c 1 b s l))
    (fun s l => (Cert.MixRefValue.v81_apply _ _ _ b s l).trans (ref_proj m c 2 b s l))
    (fun s l => proj_real h c 0 b s l) s k

end Ref

/-- The reference's result and the kernel's are one array when the arguments are, and the pooled columns are real. -/
theorem algebraic : Cert.algebraic_MixIdeal_MixRefIdeal_pre_pool_input_finite := by
  intro m ρ m' ρ' hpre hagree
  refine ⟨fun c => (Cert.MixIdeal.Gen.dats m 0 c).arrAt 9 Cert.MixIdeal.cfg0.N, Cert.MixIdeal.Value.run_blocks m ρ, ?_⟩
  refine (θ_run Cert.MixRefIdeal.defs _ _).mono (fun _ h c => ?_) (Cert.MixRefIdeal.Value.run (F := Ideal) m' ρ')
  refine ⟨(h c).1.trans ?_, (h c).2⟩
  obtain ⟨h0, h1, h2, h3, h4, h5, h6, h7, h8⟩ := hagree c
  rw [Cert.MixRefIdeal.Read.val_main_v118_eq m' c, h0, h1, h2, h3, h4, h5, h6, h7, h8]
  funext j
  obtain ⟨R, l, rfl⟩ : ∃ (R : Fin 16384) (l : Fin 2048), j = ix2 R l := ⟨j 0, j 1, eq_ix2 j⟩
  obtain ⟨b, s, hbs, rfl⟩ : ∃ (b : Fin 4) (s : Fin 4096) (hbs : b.val * 4096 + s.val < 16384), R = ⟨b.val * 4096 + s.val, hbs⟩ :=
    ⟨⟨R.val / 4096, by omega⟩, ⟨R.val % 4096, by omega⟩, by show R.val / 4096 * 4096 + R.val % 4096 < 16384; omega,
      Fin.ext (by show R.val = R.val / 4096 * 4096 + R.val % 4096; omega)⟩
  refine (Cert.MixRefOut.v118_apply _ _ _ _ _ _ _ _ _ b s l).trans ?_
  refine Eq.trans ?_ (Cert.MixValue.arr_apply m c b s l hbs).symm
  refine congrArg₂ (fun a b : EReal => a + b) rfl (Finset.sum_congr rfl fun k _ => ?_)
  refine congrArg₂ (fun a b : EReal => a * b) ?_ rfl
  exact ref_row m c hpre b s k

end Cert.MixClaim

end
-- ==== Proof.lean ====
module

public import proofs.«01_k».proof.Defs
public import proofs.«01_k».proof.Proof.AttnClaim
public import proofs.«01_k».proof.Proof.FfnClaim
public import proofs.«01_k».proof.Proof.KvClaim
public import proofs.«01_k».proof.Proof.MixClaim

@[expose] public section

noncomputable section

/-! The certificate: the four calls' claims put together. -/

namespace Cert.Proof

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Kv.Gen.facts, Cert.KvIdeal.Gen.facts, Cert.KvRefIdeal.Gen.facts,
  Cert.Mix.Gen.facts, Cert.MixIdeal.Gen.facts, Cert.MixRefIdeal.Gen.facts,
  Cert.AttnClaim.preFacts, Cert.MixClaim.preFacts,
  Cert.AttnClaim.frame, Cert.AttnClaim.frame_ideal, Cert.AttnClaim.frame_ideal_pre, Cert.AttnClaim.frame_ref, Cert.AttnClaim.frame_ref_pre,
  Cert.FfnClaim.frame, Cert.FfnClaim.frame_ideal, Cert.FfnClaim.frame_ref,
  Cert.KvClaim.frame, Cert.KvClaim.frame_ideal, Cert.KvClaim.frame_ref,
  Cert.MixClaim.frame, Cert.MixClaim.frame_ideal, Cert.MixClaim.frame_ideal_pre, Cert.MixClaim.frame_ref, Cert.MixClaim.frame_ref_pre,
  Cert.AttnClaim.preserves, Cert.AttnClaim.algebraic,
  Cert.FfnClaim.preserves, Cert.FfnClaim.algebraic,
  Cert.KvClaim.preserves, Cert.KvClaim.algebraic,
  Cert.MixClaim.preserves, Cert.MixClaim.algebraic⟩

end Cert.Proof

end
